-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 2]⟩ ⟨2, ![2048, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S_ : Shape := ⟨0, ![]⟩

class Facts : Prop where
  bcast_S_S256x128 : S_.BroadcastsInDim S256x128 (![] : Fin 0 → Fin S256x128.rank)
  bcast_S_S128x16 : S_.BroadcastsInDim S128x16 (![] : Fin 0 → Fin S128x16.rank)
  bcast_S_S256x2 : S_.BroadcastsInDim S256x2 (![] : Fin 0 → Fin S256x2.rank)

variable [Facts]

def fn {F : FTy → Type} [FloatOps F] (main_arg0 : FVec F S256x128 .bf16) (main_arg1 : FVec F S128x16 .bf16) (main_arg2 : IVec S256x2 32) (main_arg3 : FVec F S2x128x256 .bf16) : IVec S256x128 1 × IVec S128x16 1 × IVec S256x2 1 :=
  let main_v0 : FVec F S256x128 .bf16 := Host.absf main_arg0
  let main_cst : FVec F S_ .bf16 := constant S_ .bf16 0x7F80#16
  let main_v1 : FVec F S256x128 .bf16 := broadcastInDim S256x128 ![] bcast_S_S256x128 main_cst
  let main_v2 : IVec S256x128 1 := cmpf .olt main_v0 main_v1
  let main_v3 : FVec F S128x16 .bf16 := Host.absf main_arg1
  let main_cst_0 : FVec F S_ .bf16 := constant S_ .bf16 0x7F80#16
  let main_v4 : FVec F S128x16 .bf16 := broadcastInDim S128x16 ![] bcast_S_S128x16 main_cst_0
  let main_v5 : IVec S128x16 1 := cmpf .olt main_v3 main_v4
  let main_c : IVec S_ 32 := constantI S_ 32 0#32
  let main_v6 : IVec S256x2 32 := broadcastInDim S256x2 ![] bcast_S_S256x2 main_c
  let main_v7 : IVec S256x2 1 := cmpi .sge main_arg2 main_v6
  let main_c_1 : IVec S_ 32 := constantI S_ 32 16#32
  let main_v8 : IVec S256x2 32 := broadcastInDim S256x2 ![] bcast_S_S256x2 main_c_1
  let main_v9 : IVec S256x2 1 := cmpi .slt main_arg2 main_v8
  let main_v10 : IVec S256x2 1 := andi main_v7 main_v9
  (main_v2, main_v5, main_v10)
-- ==== Pre_routed_ReferenceIdeal.lean ====
abbrev S2048x128 : Shape := ⟨2, ![2048, 128]⟩
abbrev S128x16 : Shape := ⟨2, ![128, 16]⟩
abbrev S2048x2 : Shape := ⟨2, ![2048, 2]⟩
abbrev S16x128x256 : Shape := ⟨3, ![16, 128, 256]⟩
abbrev S_ : Shape := ⟨0, ![]⟩

class Facts : Prop where
  bcast_S_S2048x128 : S_.BroadcastsInDim S2048x128 (![] : Fin 0 → Fin S2048x128.rank)
  bcast_S_S128x16 : S_.BroadcastsInDim S128x16 (![] : Fin 0 → Fin S128x16.rank)
  bcast_S_S2048x2 : S_.BroadcastsInDim S2048x2 (![] : Fin 0 → Fin S2048x2.rank)

variable [Facts]

def fn {F : FTy → Type} [FloatOps F] (main_arg0 : FVec F S2048x128 .bf16) (main_arg1 : FVec F S128x16 .bf16) (main_arg2 : IVec S2048x2 32) (main_arg3 : FVec F S16x128x256 .bf16) : IVec S2048x128 1 × IVec S128x16 1 × IVec S2048x2 1 :=
  let main_v0 : FVec F S2048x128 .bf16 := Host.absf main_arg0
  let main_cst : FVec F S_ .bf16 := constant S_ .bf16 0x7F80#16
  let main_v1 : FVec F S2048x128 .bf16 := broadcastInDim S2048x128 ![] bcast_S_S2048x128 main_cst
  let main_v2 : IVec S2048x128 1 := cmpf .olt main_v0 main_v1
  let main_v3 : FVec F S128x16 .bf16 := Host.absf main_arg1
  let main_cst_0 : FVec F S_ .bf16 := constant S_ .bf16 0x7F80#16
  let main_v4 : FVec F S128x16 .bf16 := broadcastInDim S128x16 ![] bcast_S_S128x16 main_cst_0
  let main_v5 : IVec S128x16 1 := cmpf .olt main_v3 main_v4
  let main_c : IVec S_ 32 := constantI S_ 32 0#32
  let main_v6 : IVec S2048x2 32 := broadcastInDim S2048x2 ![] bcast_S_S2048x2 main_c
  let main_v7 : IVec S2048x2 1 := cmpi .sge main_arg2 main_v6
  let main_c_1 : IVec S_ 32 := constantI S_ 32 16#32
  let main_v8 : IVec S2048x2 32 := broadcastInDim S2048x2 ![] bcast_S_S2048x2 main_c_1
  let main_v9 : IVec S2048x2 1 := cmpi .slt main_arg2 main_v8
  let main_v10 : IVec S2048x2 1 := andi main_v7 main_v9
  (main_v2, main_v5, main_v10)
-- ==== Kernel.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S256x256 : Shape := ⟨2, ![256, 256]⟩
abbrev S16x128x256 : Shape := ⟨3, ![16, 128, 256]⟩
abbrev S7 : Shape := ⟨1, ![7]⟩
abbrev S8 : Shape := ⟨1, ![8]⟩
abbrev S_ : Shape := ⟨0, ![]⟩
abbrev S1 : Shape := ⟨1, ![1]⟩
abbrev S256x16 : Shape := ⟨2, ![256, 16]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x2, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S128x16, .bf16⟩
  | .local _ .vmem, ⟨2, _⟩ => ⟨S256x2, .i32⟩
  | .local _ .vmem, ⟨3, _⟩ => ⟨S2x128x256, .bf16⟩
  | .local _ .vmem, ⟨4, _⟩ => ⟨S256x256, .f32⟩
  | .local _ .vmem, ⟨5, _⟩ => ⟨S16x128x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.muli v2 c2_i32
  let v6 : Index := Scalar.indexCast v5
  let c0_2 : Index := 0#32
  let c0_3 : Index := 0#32
  ![v6.toNat, 0, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v11 : BitVec 32 := Scalar.addi v2 c1_i32_4
  let c8_i32_5 : BitVec 32 := 8#32
  let v12 : BitVec 32 := Scalar.remsi v11 c8_i32_5
  let c1_i32_7 : BitVec 32 := 1#32
  let v13 : BitVec 32 := Scalar.muli v12 c1_i32_7
  let v14 : BitVec 32 := Scalar.addi c0_i32 v13
  v14.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_8 : BitVec 32 := 2#32
  let v15 : BitVec 32 := Scalar.addi v2 c2_i32_8
  let c8_i32_9 : BitVec 32 := 8#32
  let v16 : BitVec 32 := Scalar.remsi v15 c8_i32_9
  let c1_i32_11 : BitVec 32 := 1#32
  let v17 : BitVec 32 := Scalar.muli v16 c1_i32_11
  let v18 : BitVec 32 := Scalar.addi c0_i32_12 v17
  v18.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v19 : BitVec 32 := Scalar.addi v2 c3_i32
  let c8_i32_13 : BitVec 32 := 8#32
  let v20 : BitVec 32 := Scalar.remsi v19 c8_i32_13
  let c1_i32_15 : BitVec 32 := 1#32
  let v21 : BitVec 32 := Scalar.muli v20 c1_i32_15
  let v22 : BitVec 32 := Scalar.addi c0_i32_16 v21
  v22.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v23 : BitVec 32 := Scalar.addi v2 c4_i32
  let c8_i32_17 : BitVec 32 := 8#32
  let v24 : BitVec 32 := Scalar.remsi v23 c8_i32_17
  let c1_i32_19 : BitVec 32 := 1#32
  let v25 : BitVec 32 := Scalar.muli v24 c1_i32_19
  let v26 : BitVec 32 := Scalar.addi c0_i32_20 v25
  v26.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v27 : BitVec 32 := Scalar.addi v2 c5_i32
  let c8_i32_21 : BitVec 32 := 8#32
  let v28 : BitVec 32 := Scalar.remsi v27 c8_i32_21
  let c1_i32_23 : BitVec 32 := 1#32
  let v29 : BitVec 32 := Scalar.muli v28 c1_i32_23
  let v30 : BitVec 32 := Scalar.addi c0_i32_24 v29
  v30.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v31 : BitVec 32 := Scalar.addi v2 c6_i32
  let c8_i32_25 : BitVec 32 := 8#32
  let v32 : BitVec 32 := Scalar.remsi v31 c8_i32_25
  let c1_i32_27 : BitVec 32 := 1#32
  let v33 : BitVec 32 := Scalar.muli v32 c1_i32_27
  let v34 : BitVec 32 := Scalar.addi c0_i32_28 v33
  v34.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v35 : BitVec 32 := Scalar.addi v2 c7_i32
  let c8_i32_29 : BitVec 32 := 8#32
  let v36 : BitVec 32 := Scalar.remsi v35 c8_i32_29
  let c1_i32_31 : BitVec 32 := 1#32
  let v37 : BitVec 32 := Scalar.muli v36 c1_i32_31
  let v38 : BitVec 32 := Scalar.addi c0_i32_32 v37
  v38.toNat
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v42 : BitVec 32 := Scalar.muli v2 c2_i32_37
  let c0_i32_41 : BitVec 32 := 0#32
  let c0_i32_42 : BitVec 32 := 0#32
  ![v42.toNat, 0, 0]
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v39 : BitVec 32 := Scalar.addi v2 c1_i32_34
  let c8_i32_35 : BitVec 32 := 8#32
  let v40 : BitVec 32 := Scalar.remsi v39 c8_i32_35
  let c1_i32_39 : BitVec 32 := 1#32
  let v43 : BitVec 32 := Scalar.muli v40 c1_i32_39
  let v44 : BitVec 32 := Scalar.addi c0_i32_40 v43
  v44.toNat
def k0_dev9 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_45 : BitVec 32 := 2#32
  let v51 : BitVec 32 := Scalar.addi v2 c2_i32_45
  let c8_i32_46 : BitVec 32 := 8#32
  let v52 : BitVec 32 := Scalar.remsi v51 c8_i32_46
  let c1_i32_50 : BitVec 32 := 1#32
  let v55 : BitVec 32 := Scalar.muli v52 c1_i32_50
  let v56 : BitVec 32 := Scalar.addi c0_i32_51 v55
  v56.toNat
def k0_dev10 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_56 : BitVec 32 := 3#32
  let v63 : BitVec 32 := Scalar.addi v2 c3_i32_56
  let c8_i32_57 : BitVec 32 := 8#32
  let v64 : BitVec 32 := Scalar.remsi v63 c8_i32_57
  let c1_i32_61 : BitVec 32 := 1#32
  let v67 : BitVec 32 := Scalar.muli v64 c1_i32_61
  let v68 : BitVec 32 := Scalar.addi c0_i32_62 v67
  v68.toNat
def k0_dev11 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v75 : BitVec 32 := Scalar.addi v2 c4_i32_67
  let c8_i32_68 : BitVec 32 := 8#32
  let v76 : BitVec 32 := Scalar.remsi v75 c8_i32_68
  let c1_i32_72 : BitVec 32 := 1#32
  let v79 : BitVec 32 := Scalar.muli v76 c1_i32_72
  let v80 : BitVec 32 := Scalar.addi c0_i32_73 v79
  v80.toNat
def k0_dev12 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_78 : BitVec 32 := 5#32
  let v87 : BitVec 32 := Scalar.addi v2 c5_i32_78
  let c8_i32_79 : BitVec 32 := 8#32
  let v88 : BitVec 32 := Scalar.remsi v87 c8_i32_79
  let c1_i32_83 : BitVec 32 := 1#32
  let v91 : BitVec 32 := Scalar.muli v88 c1_i32_83
  let v92 : BitVec 32 := Scalar.addi c0_i32_84 v91
  v92.toNat
def k0_dev13 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_89 : BitVec 32 := 6#32
  let v99 : BitVec 32 := Scalar.addi v2 c6_i32_89
  let c8_i32_90 : BitVec 32 := 8#32
  let v100 : BitVec 32 := Scalar.remsi v99 c8_i32_90
  let c1_i32_94 : BitVec 32 := 1#32
  let v103 : BitVec 32 := Scalar.muli v100 c1_i32_94
  let v104 : BitVec 32 := Scalar.addi c0_i32_95 v103
  v104.toNat
def k0_dev14 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_100 : BitVec 32 := 7#32
  let v111 : BitVec 32 := Scalar.addi v2 c7_i32_100
  let c8_i32_101 : BitVec 32 := 8#32
  let v112 : BitVec 32 := Scalar.remsi v111 c8_i32_101
  let c1_i32_105 : BitVec 32 := 1#32
  let v115 : BitVec 32 := Scalar.muli v112 c1_i32_105
  let v116 : BitVec 32 := Scalar.addi c0_i32_106 v115
  v116.toNat
def k0_off4 (d0 : Dev nD) (c1_i32_122 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.subi v2 c1_i32_122
  let c8_i32_123 : BitVec 32 := 8#32
  let v154 : BitVec 32 := Scalar.addi v153 c8_i32_123
  let c8_i32_124 : BitVec 32 := 8#32
  let v155 : BitVec 32 := Scalar.remsi v154 c8_i32_124
  ![v155.toNat]
def k0_off5 (d0 : Dev nD) (c1_i32_122 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.subi v2 c1_i32_122
  let c8_i32_123 : BitVec 32 := 8#32
  let v154 : BitVec 32 := Scalar.addi v153 c8_i32_123
  let c8_i32_124 : BitVec 32 := 8#32
  let v155 : BitVec 32 := Scalar.remsi v154 c8_i32_124
  let c2_i32_126 : BitVec 32 := 2#32
  let v157 : BitVec 32 := Scalar.muli v155 c2_i32_126
  let c0_i32_130 : BitVec 32 := 0#32
  let c0_i32_131 : BitVec 32 := 0#32
  ![v157.toNat, 0, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x128 : Shape := ⟨2, ![2048, 128]⟩
abbrev S128x16 : Shape := ⟨2, ![128, 16]⟩
abbrev S2048x2 : Shape := ⟨2, ![2048, 2]⟩
abbrev S16x128x256 : Shape := ⟨3, ![16, 128, 256]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S2048x128x256 : Shape := ⟨3, ![2048, 128, 256]⟩
abbrev S2048x256 : Shape := ⟨2, ![2048, 256]⟩

abbrev nBuf : Space → Nat
  | .hbm => 48
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S128x16, .bf16⟩
  | .hbm, ⟨2, _⟩ => ⟨S2048x2, .i32⟩
  | .hbm, ⟨3, _⟩ => ⟨S16x128x256, .bf16⟩
  | .hbm, ⟨4, _⟩ => ⟨S2048x128, .f32⟩
  | .hbm, ⟨5, _⟩ => ⟨S128x16, .f32⟩
  | .hbm, ⟨6, _⟩ => ⟨S16x128x256, .f32⟩
  | .hbm, ⟨7, _⟩ => ⟨S2048x16, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x16, .f32⟩
  | .hbm, ⟨12, _⟩ => ⟨S2048x16, .f32⟩
  | .hbm, ⟨13, _⟩ => ⟨S2048x16, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x16, .f32⟩
  | .hbm, ⟨18, _⟩ => ⟨S2048x16, .f32⟩
  | .hbm, ⟨19, _⟩ => ⟨S2048x1, .i32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048x1, .i32⟩
  | .hbm, ⟨26, _⟩ => ⟨S2048x2, .i32⟩
  | .hbm, ⟨27, _⟩ => ⟨S2048, .f32⟩
  | .hbm, ⟨28, _⟩ => ⟨S2048x1, .i32⟩
  | .hbm, ⟨29, _⟩ => ⟨S2048x1, .i32⟩
  | .hbm, ⟨30, _⟩ => ⟨S2048x2, .i32⟩
  | .hbm, ⟨31, _⟩ => ⟨S2048, .f32⟩
  | .hbm, ⟨32, _⟩ => ⟨S2048, .f32⟩
  | .hbm, ⟨33, _⟩ => ⟨S2048x1, .i32⟩
  | .hbm, ⟨34, _⟩ => ⟨S2048x128x256, .f32⟩
  | .hbm, ⟨35, _⟩ => ⟨S2048x256, .f32⟩
  | .hbm, ⟨36, _⟩ => ⟨S2048x1, .i32⟩
  | .hbm, ⟨37, _⟩ => ⟨S2048x128x256, .f32⟩
  | .hbm, ⟨38, _⟩ => ⟨S2048x256, .f32⟩
  | .hbm, ⟨39, _⟩ => ⟨S2048, .f32⟩
  | .hbm, ⟨40, _⟩ => ⟨S2048x1, .f32⟩
  | .hbm, ⟨41, _⟩ => ⟨S2048x256, .f32⟩
  | .hbm, ⟨42, _⟩ => ⟨S2048x256, .f32⟩
  | .hbm, ⟨43, _⟩ => ⟨S2048, .f32⟩
  | .hbm, ⟨44, _⟩ => ⟨S2048x1, .f32⟩
  | .hbm, ⟨45, _⟩ => ⟨S2048x256, .f32⟩
  | .hbm, ⟨46, _⟩ => ⟨S2048x256, .f32⟩
  | .hbm, ⟨47, _⟩ => ⟨S2048x256, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== Proof.Slots.lean ====
/-
# The devices, and the eight slots of the scratch

Device `c` keeps its own two expert matrices in slot `c` of a scratch of eight slots (rows `2c` and `2c + 1`), copies
that slot to every other device, and receives theirs. Step `k` of a device (`k = 0 … 6`) concerns the device `k + 1`
places up the ring when it signals or sends, and the one `k + 1` places down when it receives. This file names those
devices, the slots and their partition of the scratch, and `gath`: what the scratch of EVERY device holds at the end,
all sixteen expert matrices.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ViewIndex
public import Idealize.ShloMosaic.Lib.Tactic

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI Idealize.SL.Sem

variable {F : FTy → Type} [FloatOps F]
variable (m : (ℓ : Loc nD τ sig) → Buf (Elt F) ℓ)

/-! ## The ring -/

/-- The device `k + 1` places after `c`. -/
def up (c : Dev nD) (k : Fin 7) : Dev nD := ⟨(c.val + (k.val + 1)) % 8, Nat.mod_lt _ (by decide)⟩
/-- The device `k + 1` places before `c`. -/
def dn (c : Dev nD) (k : Fin 7) : Dev nD := ⟨(c.val + 7 - k.val) % 8, Nat.mod_lt _ (by decide)⟩

theorem dn_up (c : Dev nD) (k : Fin 7) : dn (up c k) k = c := by revert c k; decide
theorem up_dn (c : Dev nD) (k : Fin 7) : up (dn c k) k = c := by revert c k; decide
theorem dn_ne (c : Dev nD) (k : Fin 7) : dn c k ≠ c := by revert c k; decide
theorem up_ne (c : Dev nD) (k : Fin 7) : up c k ≠ c := by revert c k; decide
theorem ne_up (c : Dev nD) (k : Fin 7) : c ≠ up c k := fun h => up_ne c k h.symm

/-- Step `k` up the ring, a rearrangement of the devices. -/
def ring (k : Fin 7) : Dev nD ≃ Dev nD := ⟨(up · k), (dn · k), (dn_up · k), (up_dn · k)⟩

theorem eq_up_iff {c d : Dev nD} {k : Fin 7} : d = up c k ↔ c = dn d k :=
  ⟨fun h => by rw [h, dn_up], fun h => by rw [h, up_dn]⟩

/-- The device and those before it are all devices; -/
theorem univ_dn (c : Dev nD) : [c, dn c 0, dn c 1, dn c 2, dn c 3, dn c 4, dn c 5, dn c 6].toFinset = Finset.univ ∧
    [c, dn c 0, dn c 1, dn c 2, dn c 3, dn c 4, dn c 5, dn c 6].Nodup := by revert c; decide
/-- as are the device and those after it. -/
theorem univ_up (c : Dev nD) : [c, up c 0, up c 1, up c 2, up c 3, up c 4, up c 5, up c 6].toFinset = Finset.univ ∧
    [c, up c 0, up c 1, up c 2, up c 3, up c 4, up c 5, up c 6].Nodup := by revert c; decide

/-! ## The memrefs and semaphores -/

/-- The scratch: sixteen expert matrices. -/
abbrev eM : Memref sig .tc .vmem S16x128x256 .bf16 := Memref.whole cc0_scratch0

/-- Slot `p` of the scratch: rows `2p` and `2p + 1`. -/
abbrev slotM (p : Dev nD) : Memref sig .tc .vmem S2x128x256 .bf16 :=
  eM.slice (Rect.unit (s := S16x128x256) (k0_off3 p) S2x128x256.size (k0_off3_inb p)) (fun _ => rfl)

/-- The barrier semaphore; -/
abbrev barS : Sem sig := (SemArray.scalar (sig.barrier 0 rfl) : Sems sig S_).sem
/-- the semaphore a device's transfer `k` reports its departure on; -/
def sendS (k : Fin 7) : DmaSem sig := ⟨5 + k.val, by have := k.isLt; show _ < 20; omega⟩
/-- the semaphore the arrival of device `p`'s slot is reported on. -/
def recvS (p : Dev nD) : DmaSem sig := ⟨12 + p.val, by have : p.val < 8 := p.isLt; show _ < 20; omega⟩

/-- A transfer's credit: that of one slot. -/
abbrev N : ℕ := (slotM 0).view.dmaCredit
theorem N_pos : 0 < N := View.dmaCredit_pos _ (by decide)
theorem credit_slot (p : Dev nD) : (slotM p).view.dmaCredit = N := rfl

/-! ## The slots as sets of elements -/

/-- The elements of slot `p`. -/
def slotSet (p : Dev nD) : Finset (cc0_scratch0 : Ref sig .tc).ty.Idx := (slotM p).view.set

/-- An element is in the slot half its row number names. -/
theorem mem_slotSet (p : Dev nD) (i : S16x128x256.Idx) : i ∈ slotSet p ↔ (i 0).val / 2 = p.val := by
  have h : slotSet p = (Rect.unit (s := S16x128x256) (k0_off3 p) S2x128x256.size (k0_off3_inb p)).set := by
    unfold slotSet; exact View.set_slice_whole _ _
  have h1 := (i 1).isLt
  have h2 := (i 2).isLt
  rw [h, LoadRect.mem_set]
  have e := k0_off3_eq p
  constructor
  · intro hi
    obtain ⟨j, hj, hji⟩ := hi 0
    have e0 : (Rect.unit (s := S16x128x256) (k0_off3 p) S2x128x256.size (k0_off3_inb p)).off 0 = 2 * p.val := congrFun e 0
    rw [e0] at hji
    have hj' : j < 2 := hj
    have hs : (Rect.unit (s := S16x128x256) (k0_off3 p) S2x128x256.size (k0_off3_inb p)).stride 0 = 1 := rfl
    rw [hs] at hji
    omega
  · intro hi a
    fin_cases a
    · exact ⟨(i 0).val % 2, Nat.mod_lt _ (by decide), by
        show (i 0).val = k0_off3 p 0 + 1 * _
        rw [e]; show _ = 2 * p.val + 1 * _; omega⟩
    · exact ⟨(i 1).val, h1, by show (i 1).val = k0_off3 p 1 + 1 * _; rw [e]; show _ = 0 + 1 * _; omega⟩
    · exact ⟨(i 2).val, h2, by show (i 2).val = k0_off3 p 2 + 1 * _; rw [e]; show _ = 0 + 1 * _; omega⟩

/-- Different slots share no element. -/
theorem slot_disjoint (p p' : Dev nD) (h : p ≠ p') : Disjoint (slotSet p) (slotSet p') :=
  Finset.disjoint_left.mpr fun i hi hi' => h (Fin.ext (((mem_slotSet p i).mp hi).symm.trans ((mem_slotSet p' i).mp hi')))

/-- The slots cover the scratch. -/
theorem slot_cover : (Finset.univ : Finset (Dev nD)).biUnion slotSet = Finset.univ :=
  Finset.eq_univ_iff_forall.mpr fun (i : S16x128x256.Idx) =>
    Finset.mem_biUnion.mpr ⟨⟨(i 0).val / 2, by have : (i 0).val < 16 := (i 0).isLt; show _ < 8; omega⟩, Finset.mem_univ _, (mem_slotSet _ i).mpr rfl⟩

/-! ## What is staged, and what the scratch is gathered to -/

/-- Device `c`'s block of tokens; -/
def xin (c : Dev nD) : (cc0_stg0_0 : Ref sig .tc).ty.Contents (Elt F) := (win0_0.blk (0 : Fin 1)).view.read (Elt F) (m ((c : Thread nD τ).loc main_arg0))
/-- its copy of the router; -/
def rin (c : Dev nD) : (cc0_stg1_0 : Ref sig .tc).ty.Contents (Elt F) := (win0_1.blk (0 : Fin 1)).view.read (Elt F) (m ((c : Thread nD τ).loc main_arg1))
/-- its block of chosen experts; -/
def iin (c : Dev nD) : (cc0_stg2_0 : Ref sig .tc).ty.Contents (Elt F) := (win0_2.blk (0 : Fin 1)).view.read (Elt F) (m ((c : Thread nD τ).loc main_arg2))
/-- its two expert matrices. -/
def ein (c : Dev nD) : (cc0_stg3_0 : Ref sig .tc).ty.Contents (Elt F) := (win0_3.blk (0 : Fin 1)).view.read (Elt F) (m ((c : Thread nD τ).loc main_arg3))

/-- The device that holds row `i 0` of the experts; -/
def home (i : S16x128x256.Idx) : Dev nD := ⟨(i 0).val / 2, by have : (i 0).val < 16 := (i 0).isLt; show _ < 8; omega⟩
/-- the place it holds it at. -/
def within (i : S16x128x256.Idx) : S2x128x256.Idx := fun
  | 0 => ⟨(i 0).val % 2, Nat.mod_lt _ (by decide)⟩
  | 1 => ⟨(i 1).val, (i 1).isLt⟩
  | 2 => ⟨(i 2).val, (i 2).isLt⟩

/-- All sixteen expert matrices, each as its device has it staged. -/
def gath : (cc0_scratch0 : Ref sig .tc).ty.Contents (Elt F) := fun i => ein m (home i) (within i)

/-- The slot's elements, through an access at any spelling of its offsets. -/
theorem slotSet_eq (p : Dev nD) {off : Fin 3 → Nat} (h : off = k0_off3 p) (inb : ∀ a, off a + S2x128x256.size a ≤ S16x128x256.size a) :
    slotSet p = (eM.access (Rect.unit (s := S16x128x256) off S2x128x256.size inb) : View sig .tc _ _ _).set := by subst h; rfl

/-- The store of a device's own matrices puts `gath` in its slot, -/
theorem own_store (c : Dev nD) {off : Fin 3 → Nat} (h : off = k0_off3 c) (inb : ∀ a, off a + S2x128x256.size a ≤ S16x128x256.size a)
    (f : (cc0_scratch0 : Ref sig .tc).ty.Contents (Elt F)) (w : S2x128x256.Idx → Elt F .bf16) (hw : w = ein m c)
    (i : (cc0_scratch0 : Ref sig .tc).ty.Idx) (hi : i ∈ slotSet c) :
    (eM.access (Rect.unit (s := S16x128x256) off S2x128x256.size inb) : View sig .tc _ _ _).write (Elt F) f w Finset.univ i = gath m i := by
  rw [slotSet_eq c h inb] at hi
  obtain ⟨x, -, rfl⟩ := Finset.mem_map.mp hi
  refine (View.write_emb_of_mem (v := (eM.access (Rect.unit (s := S16x128x256) off S2x128x256.size inb) : View sig .tc _ _ _)) (Val := Elt F)
    f w (Finset.mem_univ x)).trans ?_
  subst hw
  have e : off = ![2 * c.val, 0, 0] := h.trans (k0_off3_eq c)
  generalize hj : (eM.access (Rect.unit (s := S16x128x256) off S2x128x256.size inb) : View sig .tc _ _ _).emb x = j
  have hv (a : Fin 3) : ((j : S16x128x256.Idx) a).val = off a + 1 * (x a).val := by rw [← hj]; rfl
  have h0 : ((j : S16x128x256.Idx) 0).val = 2 * c.val + 1 * (x 0).val := (hv 0).trans (congrArg (· + 1 * (x 0).val) (congrFun e 0))
  have h1 : ((j : S16x128x256.Idx) 1).val = 0 + 1 * (x 1).val := (hv 1).trans (congrArg (· + 1 * (x 1).val) (congrFun e 1))
  have h2 : ((j : S16x128x256.Idx) 2).val = 0 + 1 * (x 2).val := (hv 2).trans (congrArg (· + 1 * (x 2).val) (congrFun e 2))
  have x0 : (x 0).val < 2 := (x 0).isLt
  have hh : home j = c := Fin.ext (by show ((j : S16x128x256.Idx) 0).val / 2 = c.val; rw [h0]; show (2 * c.val + 1 * (x 0).val) / 2 = _; omega)
  have hwi : within j = x := by
    funext a
    fin_cases a
    · exact Fin.ext (by show ((j : S16x128x256.Idx) 0).val % 2 = (x 0).val; rw [h0]; show (2 * c.val + 1 * (x 0).val) % 2 = _; omega)
    · exact Fin.ext (by show ((j : S16x128x256.Idx) 1).val = (x 1).val; rw [h1]; show 0 + 1 * (x 1).val = _; omega)
    · exact Fin.ext (by show ((j : S16x128x256.Idx) 2).val = (x 2).val; rw [h2]; show 0 + 1 * (x 2).val = _; omega)
  show ein m c x = ein m (home j) (within j)
  rw [hh, hwi]

/-- and so does the landing of a slot copied from a device that holds `gath` there. -/
theorem landed (p : Dev nD) (f : (cc0_scratch0 : Ref sig .tc).ty.Contents (Elt F)) (i : (cc0_scratch0 : Ref sig .tc).ty.Idx) (hi : i ∈ slotSet p) :
    (slotM p).view.write (Elt F) f ((slotM p).view.read (Elt F) (gath m)) Finset.univ i = gath m i := by
  obtain ⟨x, -, rfl⟩ := Finset.mem_map.mp (show i ∈ Finset.univ.map (slotM p).view.emb from hi)
  exact View.write_emb_of_mem (v := (slotM p).view) (Val := Elt F) f _ (Finset.mem_univ x)

/-- The payload a device stores is its own two matrices. -/
theorem pay1_eq (v : Vec F S2x128x256 .bf16) : k0_pay1 v = v := by exact (shapeCast_self _ _).trans (shapeCast_self v _)

end Cert.Moe

end
-- ==== Proof.Sched.lean ====
/-
# The protocol

Per device `c`, sixteen semaphores: the barrier, seven for the departures of its transfers, eight for the arrivals (the
one of its own slot is never used). One round each.

* The barrier of `c` expects seven units. Unit `j` is signalled by `up c j`, which hands `c` the slot `c` of its own
  scratch: the destination of `c`'s transfer `j`.
* Departure semaphore `j` of `c` expects one slot's credit, paid by the transfer itself, which gives back the part of the
  share of slot `c` it read.
* Arrival semaphore `p` of `c` expects one slot's credit, paid by device `p`'s transfer, which hands `c` its slot `p`
  with the contents `gath`.

Barriers are waited for while the transfers are still owed, arrivals and departures when nothing is: barriers are at
level 1, arrivals at level 2.
-/
module

public import proofs.«01_k».proof.Proof.Slots

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-! ## The resource algebra: the pipeline's rounds and this protocol's, whose duties are named by steps -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The kernel's own scoped semaphores: departures 0 to 6, arrivals 7 to 14. -/
abbrev osem (i : Fin 15) : SemLoc sig := .dma ⟨5 + i.val, by have := i.isLt; show _ < 20; omega⟩
/-- All sixteen: the barrier, then those. -/
abbrev csem : Fin 16 → SemLoc sig := Fin.cons (.reg barS) osem
abbrev kcell (ci : Dev nD × Fin 16) : GSem nD τ sig := ((ci.1 : Thread nD τ), csem ci.2)

abbrev barCell (c : Dev nD) : GSem nD τ sig := ((c : Thread nD τ), .reg barS)
abbrev sendCell (c : Dev nD) (k : Fin 7) : GSem nD τ sig := ((c : Thread nD τ), .dma (sendS k))
abbrev recvCell (c p : Dev nD) : GSem nD τ sig := ((c : Thread nD τ), .dma (recvS p))

/-- Where the sixteen lists a departure; -/
def ixS (k : Fin 7) : Fin 16 := ⟨k.val + 1, by omega⟩
/-- and an arrival. -/
def ixR (p : Dev nD) : Fin 16 := ⟨p.val + 8, by have : p.val < 8 := p.isLt; omega⟩

theorem csem_S (k : Fin 7) : csem (ixS k) = .dma (sendS k) := by revert k; decide
theorem csem_R (p : Dev nD) : csem (ixR p) = .dma (recvS p) := by revert p; decide
theorem kcell_B (c : Dev nD) : kcell (c, 0) = barCell c := rfl
theorem kcell_S (c : Dev nD) (k : Fin 7) : kcell (c, ixS k) = sendCell c k := congrArg (Prod.mk (c : Thread nD τ)) (csem_S k)
theorem kcell_R (c p : Dev nD) : kcell (c, ixR p) = recvCell c p := congrArg (Prod.mk (c : Thread nD τ)) (csem_R p)

theorem csem_injective : Function.Injective csem := by decide

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-! ## The slots in hand -/

/-- Share `q` of slot `p` of device `c`'s scratch, holding `f`. -/
def slotPts (c p : Dev nD) (q : PosShare TreeShare) (f : (cc0_scratch0 : Ref sig .tc).ty.Contents (Elt F)) : sProp 𝕄 :=
  ((c : Thread nD τ).loc cc0_scratch0) ↦[slotSet p]{q} f

instance slotPts_storable (c p : Dev nD) (q) (f) : BI.Storable (upEmb : UEmb _ 𝕄) (slotPts (F := F) c p q f) := by unfold slotPts; infer_instance

/-- The share of its own slot a device's transfer `k` reads. -/
def tokQ (k : Fin 7) : PosShare TreeShare := shareTok fullShare.right 7 k

/-- What `up c j`'s signal hands `c`: slot `c` of its scratch; -/
def barPay (c : Dev nD) (j : Fin 7) : sProp 𝕄 := iprop(∃ f, slotPts (up c j) c fullShare f)
/-- what the departure of `c`'s transfer `k` gives back; -/
def sendPay (c : Dev nD) (k : Fin 7) : sProp 𝕄 := slotPts c c (tokQ k) (gath m)
/-- what the arrival of device `p`'s slot hands `c`. -/
def recvPay (c p : Dev nD) : sProp 𝕄 := slotPts c p fullShare (gath m)

/-! ## The schedule -/

/-- The step a departure semaphore is of; -/
def stepOf (q : DmaSem sig) : Fin 7 := ⟨(q.val - 5) % 7, Nat.mod_lt _ (by decide)⟩
/-- the device an arrival semaphore is for. -/
def devOf (q : DmaSem sig) : Dev nD := ⟨(q.val - 12) % 8, Nat.mod_lt _ (by decide)⟩

theorem stepOf_send (k : Fin 7) : stepOf (sendS k) = k := by revert k; decide
theorem devOf_recv (p : Dev nD) : devOf (recvS p) = p := by revert p; decide
theorem send_lt (k : Fin 7) : (sendS k).val < 12 ∧ 5 ≤ (sendS k).val := by revert k; decide
theorem recv_ge (p : Dev nD) : ¬ (recvS p).val < 12 := by revert p; decide

/-- The duties of round 0. -/
def dutiesOf (c : Dev nD) : SemLoc sig → Finset (Fin 7)
  | .reg s => if s = barS then Finset.univ else ∅
  | .dma q => if q.val < 12 then (if 5 ≤ q.val then {0} else ∅) else if devOf q = c then ∅ else {0}

/-- What a duty hands over. -/
def payOf (c : Dev nD) (d : Fin 7) : SemLoc sig → sProp 𝕄
  | .reg _ => barPay c d
  | .dma q => if q.val < 12 then sendPay m c (stepOf q) else recvPay m c (devOf q)

/-- What a duty raises its semaphore by. -/
def amountOf : SemLoc sig → ℕ
  | .reg _ => 1
  | .dma _ => N

def sch : Rounds.Schedule (GSem nD τ sig) (Fin 7) 𝕄 where
  duties g r := if r = 0 ∧ g.1.2 = .tc then dutiesOf g.1.1 g.2 else ∅
  unitless _ := False
  amount g _ _ := amountOf g.2
  payload g _ d := payOf m g.1.1 d g.2
  amount_pos g _ _ _ := by
    rcases g with ⟨_, s | s⟩
    · exact Nat.one_pos
    · exact N_pos

instance sch_storable (g : GSem nD τ sig) (r : ℕ) (d : Fin 7) : BI.Storable (upEmb : UEmb _ 𝕄) ((sch (F := F) m).payload g r d) := by
  rcases g with ⟨t, s | q⟩
  · show BI.Storable upEmb (barPay t.1 d)
    unfold barPay; infer_instance
  · show BI.Storable upEmb (if q.val < 12 then sendPay m t.1 (stepOf q) else recvPay m t.1 (devOf q))
    unfold sendPay recvPay; split <;> infer_instance

section Tables
variable (c p : Dev nD) (k d : Fin 7)

theorem duties_zero (s : SemLoc sig) : (sch (F := F) m).duties ((c : Thread nD τ), s) 0 = dutiesOf c s := by
  dsimp only [sch]; exact if_pos ⟨rfl, rfl⟩
theorem duties_bar : (sch (F := F) m).duties (barCell c) 0 = Finset.univ := (duties_zero m c _).trans (by dsimp only [dutiesOf]; exact if_pos rfl)
theorem duties_send : (sch (F := F) m).duties (sendCell c k) 0 = {0} :=
  (duties_zero m c _).trans ((if_pos (send_lt k).1).trans (if_pos (send_lt k).2))
theorem duties_recv (h : p ≠ c) : (sch (F := F) m).duties (recvCell c p) 0 = {0} :=
  (duties_zero m c _).trans ((if_neg (recv_ge p)).trans (if_neg fun e => h ((devOf_recv p).symm.trans e)))
theorem duties_own : (sch (F := F) m).duties (recvCell c c) 0 = ∅ :=
  (duties_zero m c _).trans ((if_neg (recv_ge c)).trans (if_pos (devOf_recv c)))
theorem duties_later (g : GSem nD τ sig) (r : ℕ) (hr : 1 ≤ r) : (sch (F := F) m).duties g r = ∅ := if_neg fun h => by omega
theorem duties_unused (r : ℕ) (_ : 0 ≤ r) : (sch (F := F) m).duties (recvCell c c) r = ∅ := by
  rcases Nat.eq_zero_or_pos r with rfl | h
  · exact duties_own m c
  · exact duties_later m _ r h

theorem amount_bar : (sch (F := F) m).amount (barCell c) 0 d = 1 := rfl
theorem amount_send : (sch (F := F) m).amount (sendCell c k) 0 d = N := rfl
theorem amount_recv : (sch (F := F) m).amount (recvCell c p) 0 d = N := rfl

theorem expect_bar : (sch (F := F) m).expect (barCell c) 0 = 7 := by
  unfold Schedule.expect Schedule.amountOf; rw [duties_bar, Finset.sum_congr rfl fun d _ => amount_bar m c d]; rfl
theorem expect_send : (sch (F := F) m).expect (sendCell c k) 0 = N := by
  unfold Schedule.expect Schedule.amountOf; rw [duties_send, Finset.sum_singleton, amount_send]
theorem expect_recv (h : p ≠ c) : (sch (F := F) m).expect (recvCell c p) 0 = N := by
  unfold Schedule.expect Schedule.amountOf; rw [duties_recv m c p h, Finset.sum_singleton, amount_recv]

theorem payload_bar : (sch (F := F) m).payload (barCell c) 0 d = barPay c d := rfl
theorem payload_send : (sch (F := F) m).payload (sendCell c k) 0 d = sendPay m c k :=
  (if_pos (send_lt k).1).trans (by rw [stepOf_send])
theorem payload_recv : (sch (F := F) m).payload (recvCell c p) 0 d = recvPay m c p :=
  (if_neg (recv_ge p)).trans (by rw [devOf_recv])

theorem rest_bar : bigSep ((sch (F := F) m).duties (barCell c) 0 \ ∅) (fun d => (sch (F := F) m).payload (barCell c) 0 d)
    = bigSep Finset.univ fun d : Fin 7 => (barPay c d : sProp 𝕄) := by rw [Finset.sdiff_empty, duties_bar]; rfl
theorem rest_send : bigSep ((sch (F := F) m).duties (sendCell c k) 0 \ ∅) (fun d => (sch (F := F) m).payload (sendCell c k) 0 d) = sendPay m c k := by
  rw [Finset.sdiff_empty, duties_send, bigSep_singleton, payload_send]
theorem rest_recv (h : p ≠ c) :
    bigSep ((sch (F := F) m).duties (recvCell c p) 0 \ ∅) (fun d => (sch (F := F) m).payload (recvCell c p) 0 d) = recvPay m c p := by
  rw [Finset.sdiff_empty, duties_recv m c p h, bigSep_singleton, payload_recv]

end Tables

/-! ## What a device owes -/

/-- The seven steps, in order. -/
abbrev steps : List (Fin 7) := [0, 1, 2, 3, 4, 5, 6]

/-- Owed by the transfers still to come: to each receiver the credit of one slot. -/
def sendOwes (c : Dev nD) : List (Fin 7) → CellTallies nD τ sig Unit
  | [] => 0
  | j :: js => sendOwes c js + tallyAt (recvCell (up c j) c) () N

/-- Owed while signals are still to come: to each of their barriers a unit, and all the transfers. -/
def sigOwes (c : Dev nD) : List (Fin 7) → CellTallies nD τ sig Unit
  | [] => sendOwes c steps
  | k :: ks => sigOwes c ks + tallyAt (barCell (up c k)) () 1

def L (g : GSem nD τ sig) : Finset Unit := if g.1.2 = .tc then {()} else ∅
/-- The barriers at 1, the arrivals at 2, all else at 0. -/
def lv (g : GSem nD τ sig) (_ : Unit) : ℕ := match g.2 with
  | .reg _ => 1
  | .dma q => if q.val < 12 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c p : Dev nD) : lv (recvCell c p) () = 2 := if_neg (recv_ge p)

theorem add_tally_pos {O : CellTallies nD τ sig Unit} {g g' : GSem nD τ sig} {n : ℕ} (h : 0 < (O + tallyAt g' () n) g ()) : 0 < O g () ∨ g = g' := by
  rw [Pi.add_apply, Finsupp.add_apply, tallyAt_apply] at h
  by_cases hg : g = g'
  · exact .inr hg
  · rw [if_neg fun h' => hg h'.1] at h; exact .inl h

/-- The transfers owe arrivals only; -/
theorem sendOwes_pos {c : Dev nD} {g : GSem nD τ sig} (js : List (Fin 7)) (h : 0 < sendOwes c js g ()) : ∃ d : Dev nD, g = recvCell d c := by
  induction js with
  | nil => exact absurd h (Nat.lt_irrefl 0)
  | cons j js ih => exact (add_tally_pos h).elim ih fun h => ⟨_, h⟩
/-- with the signals, arrivals and barriers. -/
theorem sigOwes_pos {c : Dev nD} {g : GSem nD τ sig} (ks : List (Fin 7)) (h : 0 < sigOwes c ks g ()) :
    ∃ d : Dev nD, g = recvCell d c ∨ g = barCell d := by
  induction ks with
  | nil => exact (sendOwes_pos steps h).elim fun d h => ⟨d, .inl h⟩
  | cons k ks ih => exact (add_tally_pos h).elim ih fun h => ⟨_, .inr h⟩

/-- A wait on a staging semaphore, owing all: arrivals and barriers are above it. -/
theorem mayWait_stage (c : Dev nD) (q : DmaSem sig) (hq : q.val < 12) (O : CellTallies nD τ sig Unit) (hO : O = sigOwes c steps ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact (if_pos hq).le) (fun g u hg => ?_)
    · obtain ⟨d, rfl | rfl⟩ := sigOwes_pos steps hg <;> exact Finset.mem_singleton_self _
    · obtain ⟨d, rfl | rfl⟩ := sigOwes_pos steps hg
      · exact (lv_recv d c).symm ▸ (by decide : 0 < 2)
      · exact Nat.one_pos
  · rw [MayWait_zero]; iintro -; iempintro

/-- The wait on the barrier, owing the transfers: arrivals are above it. -/
theorem mayWait_bar (c : Dev nD) : (levAts L lv : sProp 𝕄) ⊢ MayWait (c : Thread nD τ) (.reg barS) () (sendOwes c steps) := by
  refine MayOwe.of_cut (L := L) (lev := lv) 1 (fun p hp => by rw [Finset.mem_singleton.mp hp, L_tc]; exact Finset.mem_singleton_self _)
    (fun g u hg => ?_) (fun p hp => by rw [Finset.mem_singleton.mp hp]; exact Nat.le_refl 1) (fun g u hg => ?_)
  · obtain ⟨d, rfl⟩ := sendOwes_pos steps hg; exact Finset.mem_singleton_self _
  · obtain ⟨d, rfl⟩ := sendOwes_pos steps hg; exact (lv_recv d c).symm ▸ (by decide : 1 < 2)

/-! ## The records every device has -/

/-- Every cell's invariant, under the names `K`, and that every cell is at round 0: lasting facts. -/
def records (K : Dev nD × Fin 16 → ℕ) : sProp 𝕄 :=
  iprop((bigSep Finset.univ fun ci : Dev nD × Fin 16 => cellInv ER (sch m) (K ci) (kcell ci))
    ∗ bigSep Finset.univ fun ci : Dev nD × Fin 16 => reached ER (kcell ci) 0)

instance records_persistent (K : Dev nD × Fin 16 → ℕ) : BI.Persistent (records m K) := by unfold records; infer_instance

theorem inv_of {K : Dev nD × Fin 16 → ℕ} (ci : Dev nD × Fin 16) {g : GSem nD τ sig} (h : kcell ci = g) : records m K ⊢ cellInv ER (sch m) (K ci) g := by
  subst h; unfold records; iintro ⟨H, -⟩
  have h : (bigSep Finset.univ fun ci : Dev nD × Fin 16 => (cellInv ER (sch m) (K ci) (kcell ci) : sProp 𝕄)) ⊢ cellInv ER (sch m) (K ci) (kcell ci) :=
    bigSep_elim (Finset.mem_univ ci)
  iapply h; iexact H
theorem reached_of {K : Dev nD × Fin 16 → ℕ} (ci : Dev nD × Fin 16) {g : GSem nD τ sig} (h : kcell ci = g) : records m K ⊢ (reached ER g 0 : sProp 𝕄) := by
  subst h; unfold records; iintro ⟨-, H⟩
  have h : (bigSep Finset.univ fun ci : Dev nD × Fin 16 => (reached ER (kcell ci) 0 : sProp 𝕄)) ⊢ reached ER (kcell ci) 0 :=
    bigSep_elim (Finset.mem_univ ci)
  iapply h; iexact H

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Cert.Moe

end
-- ==== Proof.Steps.lean ====
/-
# The steps of the body

One rule per kind of operation of the protocol, at a symbolic device: a signal, the wait on the barrier, a transfer, a
wait for an arrival, a wait for a departure. Each rule names the operation's device, memrefs and semaphores by variables
with equations, so that it applies to the kernel's own spelling of them. A wait leaves its semaphore closed, at zero.
-/
module

public import proofs.«01_k».proof.Proof.Sched

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The program logic's judgment of a program `p` on device `c`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def owing (c : Dev nD) (O : CellTallies nD τ sig Unit) : sProp 𝕄 := iprop(∃ W, owes (c : Thread nD τ) O W)

variable (K : Dev nD × Fin 16 → ℕ)

/-- Of step `k` and the step as its target counts it: they lead back. -/
theorem up_up_rev (c : Dev nD) (k : Fin 7) : up (up c k) k.rev = c := by revert c k; decide
theorem dn_rev (c : Dev nD) (k : Fin 7) : dn c k.rev = up c k := by revert c k; decide

/-- What signal `k` of device `c` takes: the token of the unit it pays, and the slot it hands over. -/
def sigIn (c : Dev nD) (k : Fin 7) : sProp 𝕄 := iprop(dutyTok ER (barCell (up c k)) 0 k.rev ∗ ∃ f, slotPts c (up c k) fullShare f)

/-- SIGNAL `k`, to `up c k`. -/
theorem step_signal (c n : Dev nD) (k : Fin 7) (ks : List (Fin 7)) (hn : n = up c k) (s : Sem sig) (hs : s = barS) (u : ℕ) (hu : u = 1)
    {α : Type} {Q : α → sProp 𝕄} {cont : PUnit → Prog (TpuEff nD τ sig (Elt F) Λ₀ .tc) α} :
    iprop(records m K ∗ owing c (sigOwes c (k :: ks)) ∗ sigIn c k)
      ⊢ iprop((owing c (sigOwes c ks) -∗ runs c (cont ⟨⟩) Q) -∗ runs c (.op (.semSignal (n : Thread nD τ) s u) cont) Q) := by
  subst hn hs hu
  unfold owing sigIn
  iintro ⟨#HR, ⟨%W, HO⟩, Ht, Hs⟩ Hk
  iapply (Rounds.wp_signal 𝒱₀ ER (sch m) (c : Thread nD τ) none (dst := (up c k : Thread nD τ)) (κ := K (up c k, 0))
      (d := k.rev) (by rw [duties_bar]; exact Finset.mem_univ _) (amount_bar m (up c k) k.rev) () (sigOwes c ks) rfl (W := W)) $$ [HO Ht Hs]
  · isplitr; · iapply (inv_of m (up c k, 0) (kcell_B (up c k))); iexact HR
    isplitl [HO]; · iexact HO
    isplitl [Ht]; · iexact Ht
    isplitl [Hs]
    · rw [payload_bar]; unfold barPay; rw [up_up_rev]; iexact Hs
    · iapply (reached_of m (up c k, 0) (kcell_B (up c k))); iexact HR
  iintro HO
  iapply Hk
  iexists W; iexact HO

/-- THE WAIT ON THE BARRIER, for seven units: the slot of every peer that this device's transfers write comes with it. -/
theorem step_barrier (c : Dev nD) (s : Sem sig) (hs : s = barS) (u : ℕ) (hu : u = 7)
    {α : Type} {Q : α → sProp 𝕄} {cont : PUnit → Prog (TpuEff nD τ sig (Elt F) Λ₀ .tc) α} :
    iprop(records m K ∗ levAts L lv ∗ owing c (sendOwes c steps) ∗ cred (tallyAt (barCell c) () 7) ∗ atPos ER (barCell c) 0 ∅ 0)
      ⊢ iprop(((owing c (sendOwes c steps) ∗ semVal (barCell c) 0 ∗ bigSep Finset.univ fun j : Fin 7 => barPay c j) -∗ runs c (cont ⟨⟩) Q)
          -∗ runs c (.op (.semWait s u) cont) Q) := by
  subst hs hu
  unfold owing
  iintro ⟨#HR, #Hlev, ⟨%W, HO⟩, Hc, Ha⟩ Hk
  iapply (Rounds.wp_wait_rest_token 𝒱₀ ER (sch m) (c : Thread nD τ) none (κ := K (c, 0))
      (wpE_semWait_eq 𝒱₀ (c : Thread nD τ) none Set.univ) (Set.mem_univ _) () (O := sendOwes c steps) (W := W) (R := 0) (m := 0) (T := ∅)
      (by rw [expect_bar])) $$ [Hc HO Ha]
  · isplitr; · iapply (inv_of m (c, 0) (kcell_B c)); iexact HR
    isplitl [Hc]; · iexact Hc
    isplitl [HO]; · iexact HO
    isplitr; · iapply (mayWait_bar c); iexact Hlev
    iexact Ha
  iintro ⟨HO, Ha, -, Hp⟩
  ihave Hp := (Entails.of_eq (rest_bar m c)) $$ Hp
  imod (Rounds.cell_close ER (sch m) (Set.mem_univ (K (c, 0))) (fun h => h) (R := 0 + 1) (duties_later m (barCell c))) $$ [Ha] with Hz
  · isplitr; · iapply (inv_of m (c, 0) (kcell_B c)); iexact HR
    iexact Ha
  iapply Hk
  isplitl [HO]; · iexists _; iexact HO
  isplitl [Hz]; · iexact Hz
  iexact Hp

/-- What transfer `j` of device `c` takes: the share of its slot it reads, the target's slot, the tokens of the two
    credits it pays. -/
def sendIn (c : Dev nD) (j : Fin 7) : sProp 𝕄 :=
  iprop(sendPay m c j ∗ barPay c j ∗ dutyTok ER (sendCell c j) 0 0 ∗ dutyTok ER (recvCell (up c j) c) 0 0)

theorem sendOwes_cons (c : Dev nD) (j : Fin 7) (js : List (Fin 7)) :
    sendOwes c (j :: js) = sendOwes c js + tallyAt (recvCell (up c j) c) () N := rfl

/-- A slot in hand, as its view spells it. -/
theorem slotPts_view (c p : Dev nD) (q : PosShare TreeShare) (f : (cc0_scratch0 : Ref sig .tc).ty.Contents (Elt F)) :
    (slotPts c p q f : sProp 𝕄) = ((slotM p).view.loc (c : Thread nD τ) ↦[(slotM p).view.set]{q} f) := rfl

/-- The share a transfer read makes its departure's payload; -/
theorem gone_pay (c : Dev nD) (j : Fin 7) :
    ((slotM c).view.loc (c : Thread nD τ) ↦[(slotM c).view.set]{tokQ j} gath m) ⊢ (sch (F := F) m).payload (sendCell c j) 0 0 := by
  rw [payload_send]; exact BI.Entails.refl _

/-- what it wrote on the target, its arrival's. -/
theorem landed_pay (c n : Dev nD) (f : (cc0_scratch0 : Ref sig .tc).ty.Contents (Elt F)) :
    ((slotM c).view.loc (n : Thread nD τ) ↦[(slotM c).view.set]{fullShare}
      ((slotM c).view.write (Elt F) f ((slotM c).view.read (Elt F) (gath m)) Finset.univ)) ⊢ (sch (F := F) m).payload (recvCell n c) 0 0 := by
  rw [payload_recv]; exact Entails.of_eq (pointsTo_congr fun i hi => landed m c f i hi)

/-- TRANSFER `j`, of the device's own slot to `up c j`. -/
theorem step_send (c n : Dev nD) (j : Fin 7) (js : List (Fin 7)) (hn : n = up c j) {src dst : Memref sig .tc .vmem S2x128x256 .bf16}
    (hsrc : src = slotM c) (hdst : dst = slotM c) {sS sR : DmaSem sig} (hsS : sS = sendS j) (hsR : sR = recvS c)
    {hsc : (dst : Memref sig (Dev.tc n : Thread nD τ).2.kind .vmem S2x128x256 .bf16).view.ref.isScScratch = false}
    {hw : src.view.WordExact} {hw' : dst.view.WordExact} {ht : DmaTarget.Typed .vmem (.dma sR) (.remote (Dev.tc n : Thread nD τ) dst (.dma sS) hsc)}
    {α : Type} {Q : α → sProp 𝕄} {cont : PUnit → Prog (TpuEff nD τ sig (Elt F) Λ₀ .tc) α} :
    iprop(records m K ∗ owing c (sendOwes c (j :: js)) ∗ sendIn m c j)
      ⊢ iprop(((owing c (sendOwes c js) ∗ cred (tallyAt (sendCell c j) () N)) -∗ runs c (cont ⟨⟩) Q)
          -∗ runs c (.op (.enqueueDma src (.remote (Dev.tc n : Thread nD τ) dst (.dma sS) hsc) (.dma sR) hw hw' ht) cont) Q) := by
  subst hn hsrc hdst hsS hsR
  unfold owing sendIn barPay sendPay
  iintro ⟨#HR, ⟨%W, HO⟩, Hsrc, ⟨%f, Hdst⟩, HtS, HtR⟩ Hk
  ihave Hsrc := (Entails.of_eq (slotPts_view c c (tokQ j) (gath m))) $$ Hsrc
  ihave Hdst := (Entails.of_eq (slotPts_view (up c j) c fullShare f)) $$ Hdst
  iapply (Rounds.wp_send_pointsTo 𝒱₀ ER (sch m) (c : Thread nD τ) none (c' := (up c j : Thread nD τ)) (src := slotM c) (dst := slotM c) (sS := .dma (sendS j)) (sem := .dma (recvS c))
      (κ₁ := K (c, ixS j)) (κ₂ := K (up c j, ixR c))
      (q := tokQ j) (fs := gath m) (r₁ := 0) (r₂ := 0) (d₁ := 0) (d₂ := 0) (fd := f)
      (by rw [duties_send]; exact Finset.mem_singleton_self _) (by rw [duties_recv m (up c j) c (ne_up c j)]; exact Finset.mem_singleton_self _)
      () () N (credit_slot c) (amount_send m c j 0) (amount_recv m (up c j) c 0) (sendOwes c js) (sendOwes_cons c j js) (W := W)
      (gone_pay m c j) (landed_pay m c (up c j) f)) $$ [Hsrc Hdst HO HtS HtR]
  · isplitr; · iapply (inv_of m (c, ixS j) (kcell_S c j)); iexact HR
    isplitr; · iapply (inv_of m (up c j, ixR c) (kcell_R (up c j) c)); iexact HR
    isplitl [Hsrc]; · iexact Hsrc
    isplitl [Hdst]; · iexact Hdst
    isplitl [HO]; · iexact HO
    isplitl [HtS]; · iexact HtS
    isplitr; · iapply (reached_of m (c, ixS j) (kcell_S c j)); iexact HR
    isplitl [HtR]; · iexact HtR
    iapply (reached_of m (up c j, ixR c) (kcell_R (up c j) c)); iexact HR
  iintro ⟨Hc, HO⟩
  iapply Hk
  isplitl [HO]; · iexists W; iexact HO
  iexact Hc

/-- What the wait for device `p`'s arrival takes. -/
def recvIn (c p : Dev nD) : sProp 𝕄 := iprop(cred (tallyAt (recvCell c p) () N) ∗ atPos ER (recvCell c p) 0 ∅ 0)

/-- THE WAIT FOR AN ARRIVAL: device `p`'s slot, holding its expert matrices. -/
theorem step_recv (c p : Dev nD) (hp : p ≠ c) {src dst : Memref sig .tc .vmem S2x128x256 .bf16} {s : DmaSem sig} (hs : s = recvS p)
    {hw : src.view.WordExact} {hw' : dst.view.WordExact} (hN : dst.view.dmaCredit = N)
    {α : Type} {Q : α → sProp 𝕄} {cont : PUnit → Prog (TpuEff nD τ sig (Elt F) Λ₀ .tc) α} :
    iprop(records m K ∗ owing c 0 ∗ recvIn c p)
      ⊢ iprop(((owing c 0 ∗ semVal (recvCell c p) 0 ∗ recvPay m c p) -∗ runs c (cont ⟨⟩) Q)
          -∗ runs c (.op (.waitDma2 s src dst hw hw') cont) Q) := by
  subst hs
  unfold owing recvIn
  iintro ⟨#HR, ⟨%W, HO⟩, Hc, Ha⟩ Hk
  iapply (Rounds.wp_wait_rest_token 𝒱₀ ER (sch m) (c : Thread nD τ) none (κ := K (c, ixR p))
      (wpE_waitDma2_eq 𝒱₀ (c : Thread nD τ) none Set.univ) (Set.mem_univ _) () (O := 0) (W := W) (R := 0) (m := 0) (T := ∅)
      (by rw [Nat.zero_add, hN, expect_recv m c p hp])) $$ [Hc HO Ha]
  · isplitr; · iapply (inv_of m (c, ixR p) (kcell_R c p)); iexact HR
    isplitl [Hc]; · rw [hN]; iexact Hc
    isplitl [HO]; · iexact HO
    isplitr; · rw [MayWait_zero]; iempintro
    iexact Ha
  iintro ⟨HO, Ha, -, Hp⟩
  ihave Hp := (Entails.of_eq (rest_recv m c p hp)) $$ Hp
  imod (Rounds.cell_close ER (sch m) (Set.mem_univ (K (c, ixR p))) (fun h => h) (R := 0 + 1) (duties_later m (recvCell c p))) $$ [Ha] with Hz
  · isplitr; · iapply (inv_of m (c, ixR p) (kcell_R c p)); iexact HR
    iexact Ha
  iapply Hk
  isplitl [HO]; · iexists _; iexact HO
  isplitl [Hz]; · iexact Hz
  iexact Hp

/-- What the wait for departure `k` takes. -/
def goneIn (c : Dev nD) (k : Fin 7) : sProp 𝕄 := iprop(cred (tallyAt (sendCell c k) () N) ∗ atPos ER (sendCell c k) 0 ∅ 0)

/-- THE WAIT FOR A DEPARTURE: the share of the device's own slot that transfer `k` read is back. -/
theorem step_gone (c : Dev nD) (k : Fin 7) {src dst : Memref sig .tc .vmem S2x128x256 .bf16} {s : DmaSem sig} (hs : s = sendS k)
    {hw : src.view.WordExact} {hw' : dst.view.WordExact} (hN : dst.view.dmaCredit = N)
    {α : Type} {Q : α → sProp 𝕄} {cont : PUnit → Prog (TpuEff nD τ sig (Elt F) Λ₀ .tc) α} :
    iprop(records m K ∗ owing c 0 ∗ goneIn c k)
      ⊢ iprop(((owing c 0 ∗ semVal (sendCell c k) 0 ∗ sendPay m c k) -∗ runs c (cont ⟨⟩) Q)
          -∗ runs c (.op (.waitDma2 s src dst hw hw') cont) Q) := by
  subst hs
  unfold owing goneIn
  iintro ⟨#HR, ⟨%W, HO⟩, Hc, Ha⟩ Hk
  iapply (Rounds.wp_wait_rest_token 𝒱₀ ER (sch m) (c : Thread nD τ) none (κ := K (c, ixS k))
      (wpE_waitDma2_eq 𝒱₀ (c : Thread nD τ) none Set.univ) (Set.mem_univ _) () (O := 0) (W := W) (R := 0) (m := 0) (T := ∅)
      (by rw [Nat.zero_add, hN, expect_send m c k])) $$ [Hc HO Ha]
  · isplitr; · iapply (inv_of m (c, ixS k) (kcell_S c k)); iexact HR
    isplitl [Hc]; · rw [hN]; iexact Hc
    isplitl [HO]; · iexact HO
    isplitr; · rw [MayWait_zero]; iempintro
    iexact Ha
  iintro ⟨HO, Ha, -, Hp⟩
  ihave Hp := (Entails.of_eq (rest_send m c k)) $$ Hp
  imod (Rounds.cell_close ER (sch m) (Set.mem_univ (K (c, ixS k))) (fun h => h) (R := 0 + 1) (duties_later m (sendCell c k))) $$ [Ha] with Hz
  · isplitr; · iapply (inv_of m (c, ixS k) (kcell_S c k)); iexact HR
    iexact Ha
  iapply Hk
  isplitl [HO]; · iexists _; iexact HO
  isplitl [Hz]; · iexact Hz
  iexact Hp

end Cert.Moe

end
-- ==== Proof.Split.lean ====
/-
# The scratch in pieces

The scratch is its eight slots, at any share. A device's own slot is dealt in three: half of it stays with the device for
its reads, of the other half each of the seven transfers has a part and a rest is kept. A slot that arrives is half read,
half kept.
-/
module

public import proofs.«01_k».proof.Proof.Steps

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Share `q` of the whole scratch of device `c`, holding `f`. -/
def scrPts (c : Dev nD) (q : PosShare TreeShare) (f : (cc0_scratch0 : Ref sig .tc).ty.Contents (Elt F)) : sProp 𝕄 :=
  ((c : Thread nD τ).loc cc0_scratch0) ↦{q} f

theorem scr_slots (c : Dev nD) (q : PosShare TreeShare) (f : (cc0_scratch0 : Ref sig .tc).ty.Contents (Elt F)) :
    (scrPts c q f : sProp 𝕄) = bigSep Finset.univ fun p : Dev nD => slotPts c p q f := by
  have h := pointsTo_biUnion (Ix := Unit) (Val := Elt F) (Name := ℕ) (U := UU) (Lvl := ℕ) (ℓ := (c : Thread nD τ).loc cc0_scratch0) (q := q) (f := f)
    (Finset.univ : Finset (Dev nD)) slotSet (fun p _ p' _ h => slot_disjoint p p' h)
  exact (congrArg (fun S => pointsTo ((c : Thread nD τ).loc cc0_scratch0) S q f) slot_cover.symm).trans h

/-- All devices, listed from `c` upwards; -/
theorem devs_up (c : Dev nD) (Φ : Dev nD → sProp 𝕄) :
    bigSep Finset.univ Φ = iprop(Φ c ∗ bigSep Finset.univ fun k : Fin 7 => Φ (up c k)) := by
  rw [bigSep_eq_bigSepL_of_eq _ (univ_up c).1.symm (univ_up c).2 Φ, bigSep_fin7]; rfl
/-- and downwards. -/
theorem devs_dn (c : Dev nD) (Φ : Dev nD → sProp 𝕄) :
    bigSep Finset.univ Φ = iprop(Φ c ∗ bigSep Finset.univ fun k : Fin 7 => Φ (dn c k)) := by
  rw [bigSep_eq_bigSepL_of_eq _ (univ_dn c).1.symm (univ_dn c).2 Φ, bigSep_fin7]; rfl

/-- The scratch is its own slot and the seven above; -/
theorem scr_up (c : Dev nD) (q : PosShare TreeShare) (f : (cc0_scratch0 : Ref sig .tc).ty.Contents (Elt F)) :
    (scrPts c q f : sProp 𝕄) = iprop(slotPts c c q f ∗ bigSep Finset.univ fun k : Fin 7 => slotPts c (up c k) q f) :=
  (scr_slots c q f).trans (devs_up c _)
/-- its own slot and the seven below. -/
theorem scr_dn (c : Dev nD) (q : PosShare TreeShare) (f : (cc0_scratch0 : Ref sig .tc).ty.Contents (Elt F)) :
    (scrPts c q f : sProp 𝕄) = iprop(slotPts c c q f ∗ bigSep Finset.univ fun k : Fin 7 => slotPts c (dn c k) q f) :=
  (scr_slots c q f).trans (devs_dn c _)

/-- A slot is its two halves. -/
theorem slot_halves (c p : Dev nD) (f : (cc0_scratch0 : Ref sig .tc).ty.Contents (Elt F)) :
    (slotPts c p fullShare f : sProp 𝕄) ⊣⊢ iprop(slotPts c p fullShare.left f ∗ slotPts c p fullShare.right f) :=
  pointsTo_share (PosShare.mem_left_op_right fullShare)

/-- What is kept of the half dealt to the transfers. -/
def restQ : PosShare TreeShare := shareDrop fullShare.right 7

/-- The own slot dealt: the half read, the rest kept, the transfers' parts; -/
theorem own_deal (c : Dev nD) :
    (slotPts c c fullShare (gath m) : sProp 𝕄)
      ⊢ iprop(slotPts c c fullShare.left (gath m) ∗ slotPts c c restQ (gath m) ∗ bigSep Finset.univ fun k : Fin 7 => sendPay m c k) := by
  iintro H
  ihave H := (slot_halves c c (gath m)).1 $$ H
  icases H with ⟨Hl, Hr⟩
  isplitl [Hl]; · iexact Hl
  iapply (show (slotPts c c fullShare.right (gath m) : sProp 𝕄) ⊢ _ from pointsTo_toks_split fullShare.right 7)
  iexact Hr
/-- and collected. -/
theorem own_collect (c : Dev nD) :
    iprop(slotPts c c restQ (gath m) ∗ bigSep Finset.univ fun k : Fin 7 => sendPay m c k) ⊢ (slotPts c c fullShare.right (gath m) : sProp 𝕄) :=
  pointsTo_toks_join fullShare.right 7

/-- The arrived slots and the own one's half: half of the whole scratch, holding `gath`, and the arrived slots' other halves. -/
theorem gathered (c : Dev nD) :
    iprop(slotPts c c fullShare.left (gath m) ∗ bigSep Finset.univ fun k : Fin 7 => recvPay m c (dn c k))
      ⊢ (iprop(scrPts c fullShare.left (gath m) ∗ bigSep Finset.univ fun k : Fin 7 => slotPts c (dn c k) fullShare.right (gath m)) : sProp 𝕄) := by
  have h : (bigSep Finset.univ fun k : Fin 7 => recvPay m c (dn c k))
      ⊢ (iprop((bigSep Finset.univ fun k : Fin 7 => slotPts c (dn c k) fullShare.left (gath m))
          ∗ bigSep Finset.univ fun k : Fin 7 => slotPts c (dn c k) fullShare.right (gath m)) : sProp 𝕄) := by
    rw [← bigSep_sep']; exact bigSep_mono fun k _ => (slot_halves c (dn c k) (gath m)).1
  rw [scr_dn]
  iintro ⟨Ho, Hs⟩
  ihave Hs := h $$ Hs
  icases Hs with ⟨Hl, Hr⟩
  isplitl [Ho Hl]
  · isplitl [Ho] <;> iassumption
  iexact Hr

/-- All pieces back: the whole scratch. -/
theorem scr_collect (c : Dev nD) :
    iprop(scrPts c fullShare.left (gath m) ∗ (bigSep Finset.univ fun k : Fin 7 => slotPts c (dn c k) fullShare.right (gath m))
        ∗ slotPts c c restQ (gath m) ∗ bigSep Finset.univ fun k : Fin 7 => sendPay m c k)
      ⊢ (scrPts c fullShare (gath m) : sProp 𝕄) := by
  iintro ⟨Hl, Hr, Hk, Hs⟩
  iapply (show iprop(scrPts c fullShare.left (gath m) ∗ scrPts c fullShare.right (gath m)) ⊢ (scrPts c fullShare (gath m) : sProp 𝕄)
    from (pointsTo_share (PosShare.mem_left_op_right fullShare)).2)
  isplitl [Hl]; · iexact Hl
  rw [scr_dn c fullShare.right]
  isplitl [Hk Hs]
  · iapply (own_collect m c); isplitl [Hk] <;> iassumption
  iexact Hr

end Cert.Moe

end
-- ==== Proof.Body.lean ====
/-
# The body

The kernel's body, run once at a symbolic device: the device stores its own expert matrices in its slot, hands each other
device the slot that device writes, waits until it has been handed all of its targets, sends its slot to each, waits for
the seven arrivals, computes from the sixteen matrices, and waits for the seven departures.
-/
module

public import proofs.«01_k».proof.Proof.Split

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result -/

/-- A chosen-expert column of device `c`, as loaded. -/
def icolAt (c : Dev nD) (off : Fin 2 → Nat) (inb : ∀ a, off a + S256x1.size a ≤ S256x2.size a) : Vec F S256x1 .i32 :=
  (Memref.whole cc0_stg2_0 : Memref sig .tc .vmem S256x2 .i32).view.readAt (Elt F) (Rect.unit (s := S256x2) off S256x1.size inb).toLoadRect (iin m c)

/-- An expert matrix, as loaded from the gathered scratch. -/
def rowAt (off : Fin 3 → Nat) (inb : ∀ a, off a + S1x128x256.size a ≤ S16x128x256.size a) : Vec F S1x128x256 .bf16 :=
  eM.view.readAt (Elt F) (Rect.unit (s := S16x128x256) off S1x128x256.size inb).toLoadRect (gath m)

/-- Its tokens and its router, as loaded. -/
def xRead (c : Dev nD) : Vec F S256x128 .bf16 :=
  (Memref.whole cc0_stg0_0 : Memref sig .tc .vmem S256x128 .bf16).view.readAt (Elt F)
    (Rect.unit (s := S256x128) ![0, 0] S256x128.size inb_S256x128_S256x128_0_0).toLoadRect (xin m c)
def rRead (c : Dev nD) : Vec F S128x16 .bf16 :=
  (Memref.whole cc0_stg1_0 : Memref sig .tc .vmem S128x16 .bf16).view.readAt (Elt F)
    (Rect.unit (s := S128x16) ![0, 0] S128x16.size inb_S128x16_S128x16_0_0).toLoadRect (rin m c)

/-- The routing weights of device `c`'s tokens; -/
def gates (c : Dev nD) : FVec F S256x16 .f32 :=
  k0_pay4 (k0_pay3 (xRead m c) (rRead m c) (icolAt m c ![0, 0] inb_S256x2_S256x1_0_0) (icolAt m c ![0, 1] inb_S256x2_S256x1_0_1))
/-- its tokens; -/
def toks (c : Dev nD) : FVec F S256x128 .bf16 := k0_pay2 (xRead m c)

/-- what it stores: the weighted sum over the sixteen experts. -/
def outAt (c : Dev nD) : (cc0_stg4_0 : Ref sig .tc).ty.Contents (Elt F) :=
  k0_pay13 (toks m c) (gates m c)
    (k0_pay10 (toks m c) (gates m c)
      (k0_pay8 (toks m c) (gates m c)
        (k0_pay7 (toks m c) (gates m c) k0_pay5 (k0_pay6 (toks m c) (gates m c))
          (rowAt m ![0, 0, 0] inb_S16x128x256_S1x128x256_0_0_0) (rowAt m ![1, 0, 0] inb_S16x128x256_S1x128x256_1_0_0)
          (rowAt m ![2, 0, 0] inb_S16x128x256_S1x128x256_2_0_0) (rowAt m ![3, 0, 0] inb_S16x128x256_S1x128x256_3_0_0) (rowAt m ![4, 0, 0] inb_S16x128x256_S1x128x256_4_0_0))
        (rowAt m ![5, 0, 0] inb_S16x128x256_S1x128x256_5_0_0) (rowAt m ![6, 0, 0] inb_S16x128x256_S1x128x256_6_0_0)
        (rowAt m ![7, 0, 0] inb_S16x128x256_S1x128x256_7_0_0) (rowAt m ![8, 0, 0] inb_S16x128x256_S1x128x256_8_0_0))
      (k0_pay9 (toks m c) (gates m c))
      (rowAt m ![9, 0, 0] inb_S16x128x256_S1x128x256_9_0_0) (rowAt m ![10, 0, 0] inb_S16x128x256_S1x128x256_10_0_0)
      (rowAt m ![11, 0, 0] inb_S16x128x256_S1x128x256_11_0_0) (rowAt m ![12, 0, 0] inb_S16x128x256_S1x128x256_12_0_0) (rowAt m ![13, 0, 0] inb_S16x128x256_S1x128x256_13_0_0))
    (k0_pay11 (toks m c)) (k0_pay12 (gates m c)) (rowAt m ![14, 0, 0] inb_S16x128x256_S1x128x256_14_0_0) (rowAt m ![15, 0, 0] inb_S16x128x256_S1x128x256_15_0_0)

/-! ## What a device starts and ends with -/

/-- The protocol's part: the records, its place at each of its semaphores, the tokens of the credits it pays. -/
def ghost (K : Dev nD × Fin 16 → ℕ) (c : Dev nD) : sProp 𝕄 :=
  iprop(records m K ∗ atPos ER (barCell c) 0 ∅ 0 ∗ (bigSep Finset.univ fun k : Fin 7 => atPos ER (sendCell c k) 0 ∅ 0)
    ∗ atPos ER (recvCell c c) 0 ∅ 0 ∗ (bigSep Finset.univ fun k : Fin 7 => atPos ER (recvCell c (dn c k)) 0 ∅ 0)
    ∗ (bigSep Finset.univ fun k : Fin 7 => dutyTok ER (barCell (up c k)) 0 k.rev)
    ∗ (bigSep Finset.univ fun k : Fin 7 => dutyTok ER (sendCell c k) 0 0)
    ∗ bigSep Finset.univ fun k : Fin 7 => dutyTok ER (recvCell (up c k) c) 0 0)

/-- With it, the credits of its waits and the levels. -/
def start (c : Dev nD) : sProp 𝕄 :=
  iprop((∃ K, ghost m K c) ∗ cred (tallyAt (barCell c) () 7)
    ∗ (bigSep Finset.univ fun k : Fin 7 => cred (tallyAt (recvCell c (dn c k)) () N)) ∗ levAts L lv)

/-- Before the body; -/
def Φ₀ (c : Dev nD) : sProp 𝕄 := iprop(start m c ∗ ∃ f, scrPts c fullShare f)
/-- after it: the scratch gathered, every semaphore closed at zero. -/
def Φ₁ (c : Dev nD) : sProp 𝕄 :=
  iprop(scrPts c fullShare (gath m) ∗ semVal (barCell c) 0 ∗ (bigSep Finset.univ fun k : Fin 7 => semVal (sendCell c k) 0)
    ∗ semVal (recvCell c c) 0 ∗ bigSep Finset.univ fun k : Fin 7 => semVal (recvCell c (dn c k)) 0)

/-- The pipeline's account of the one call: what its windows hold, before and after the body. -/
def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => rin m c
    | ⟨2, _⟩ => iin m c
    | ⟨3, _⟩ => ein m c
    | ⟨4, _⟩ => outAt m c
  Φ t := match t with
    | ⟨0, _⟩ => Φ₀ m c
    | ⟨_ + 1, _⟩ => Φ₁ m c
  q _ := fullShare
  owed t := match t with
    | ⟨0, _⟩ => sigOwes c steps
    | ⟨_ + 1, _⟩ => 0

/-! ## The kernel's spellings -/

theorem sem_send (k : Fin 7) {off : Fin 1 → Nat} (h : off = ![k.val]) (inb : ∀ a, off a + S1.size a ≤ S7.size a) :
    ((SemArray.slice cc0_scratch1 (Rect.unit (s := S7) off S1.size inb)).squeeze S_ squeezes_S1_S_ : DmaSems sig S_).sem = sendS k := by
  subst h; revert inb; revert k; decide +kernel
theorem sem_recv (p : Dev nD) {off : Fin 1 → Nat} (h : off = ![p.val]) (inb : ∀ a, off a + S1.size a ≤ S8.size a) :
    ((SemArray.slice cc0_scratch2 (Rect.unit (s := S8) off S1.size inb)).squeeze S_ squeezes_S1_S_ : DmaSems sig S_).sem = recvS p := by
  subst h; revert inb; revert p; decide +kernel
theorem slice_credit (off : Fin 3 → Nat) (inb : ∀ a, off a + S2x128x256.size a ≤ S16x128x256.size a) (h) :
    (eM.slice (Rect.unit (s := S16x128x256) off S2x128x256.size inb) h).view.dmaCredit = N := rfl

theorem hz2 : (![0, 0] : Fin 2 → Nat) = fun _ => 0 := funext fun a => by fin_cases a <;> rfl
theorem hz3 : (![0, 0, 0] : Fin 3 → Nat) = fun _ => 0 := funext fun a => by fin_cases a <;> rfl

theorem fin7_intro (Φ : Fin 7 → sProp 𝕄) : iprop(Φ 0 ∗ Φ 1 ∗ Φ 2 ∗ Φ 3 ∗ Φ 4 ∗ Φ 5 ∗ Φ 6) ⊢ bigSep Finset.univ Φ :=
  Entails.of_eq (bigSep_fin7 Φ).symm

/-- The signals' parts, from the tokens and the slots; -/
theorem signals_in (c : Dev nD) (f : (cc0_scratch0 : Ref sig .tc).ty.Contents (Elt F)) :
    iprop((bigSep Finset.univ fun k : Fin 7 => dutyTok ER (barCell (up c k)) 0 k.rev) ∗ bigSep Finset.univ fun k : Fin 7 => slotPts c (up c k) fullShare f)
      ⊢ (iprop(sigIn c 0 ∗ sigIn c 1 ∗ sigIn c 2 ∗ sigIn c 3 ∗ sigIn c 4 ∗ sigIn c 5 ∗ sigIn c 6) : sProp 𝕄) := by
  have h (k : Fin 7) : iprop(dutyTok ER (barCell (up c k)) 0 k.rev ∗ slotPts c (up c k) fullShare f) ⊢ (sigIn c k : sProp 𝕄) := by
    unfold sigIn
    iintro ⟨Ht, Hs⟩
    isplitl [Ht]; · iexact Ht
    iexists f; iexact Hs
  rw [← bigSep_fin7 fun k => sigIn c k, ← bigSep_sep']
  exact bigSep_mono fun k _ => h k
/-- the transfers', from the shares read, the targets, the tokens; -/
theorem sends_in (c : Dev nD) :
    iprop((bigSep Finset.univ fun k : Fin 7 => sendPay m c k) ∗ (bigSep Finset.univ fun k : Fin 7 => barPay c k)
        ∗ (bigSep Finset.univ fun k : Fin 7 => dutyTok ER (sendCell c k) 0 0) ∗ bigSep Finset.univ fun k : Fin 7 => dutyTok ER (recvCell (up c k) c) 0 0)
      ⊢ (iprop(sendIn m c 0 ∗ sendIn m c 1 ∗ sendIn m c 2 ∗ sendIn m c 3 ∗ sendIn m c 4 ∗ sendIn m c 5 ∗ sendIn m c 6) : sProp 𝕄) := by
  rw [← bigSep_fin7 fun k => sendIn m c k, ← bigSep_sep', ← bigSep_sep', ← bigSep_sep']; exact BI.Entails.refl _
/-- the arrivals', from the credits and the places. -/
theorem recvs_in (c : Dev nD) :
    iprop((bigSep Finset.univ fun k : Fin 7 => cred (tallyAt (recvCell c (dn c k)) () N))
        ∗ bigSep Finset.univ fun k : Fin 7 => atPos ER (recvCell c (dn c k)) 0 ∅ 0)
      ⊢ (iprop(recvIn c (dn c 0) ∗ recvIn c (dn c 1) ∗ recvIn c (dn c 2) ∗ recvIn c (dn c 3) ∗ recvIn c (dn c 4) ∗ recvIn c (dn c 5) ∗ recvIn c (dn c 6)) : sProp 𝕄) := by
  rw [← bigSep_fin7 fun k => recvIn c (dn c k), ← bigSep_sep']; exact BI.Entails.refl _

/-- The scratch after the device's own store: its slot holds `gath`, the other slots are as they were found. -/
theorem stored (c : Dev nD) {off : Fin 3 → Nat} (h : off = k0_off3 c) (inb : ∀ a, off a + S2x128x256.size a ≤ S16x128x256.size a)
    (f : (cc0_scratch0 : Ref sig .tc).ty.Contents (Elt F)) (w : S2x128x256.Idx → Elt F .bf16) (hw : w = ein m c) :
    ((c : Thread nD τ).loc cc0_scratch0 ↦{fullShare} ((eM.access (Rect.unit (s := S16x128x256) off S2x128x256.size inb) : View sig .tc _ _ _).write (Elt F) f w Finset.univ))
      ⊢ (iprop(slotPts c c fullShare (gath m) ∗ ∃ f, bigSep Finset.univ fun k : Fin 7 => slotPts c (up c k) fullShare f) : sProp 𝕄) := by
  change (scrPts c fullShare _ : sProp 𝕄) ⊢ _
  rw [scr_up]
  iintro ⟨Ho, Hs⟩
  isplitl [Ho]
  · iapply (Entails.of_eq (show (slotPts c c fullShare _ : sProp 𝕄) = slotPts c c fullShare (gath m) from pointsTo_congr fun i hi => own_store m c h inb f w hw i hi))
    iexact Ho
  iexists _; iexact Hs

/-! ## The body -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Device `c`'s buffer `b`, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ m c ∗ (dats m 0 c).owesAt () t0_0.succ
    ∗ stg c cc0_stg0_0 (xin m c) ∗ stg c cc0_stg1_0 (rin m c) ∗ stg c cc0_stg2_0 (iin m c) ∗ stg c cc0_stg3_0 (ein m c)
    ∗ stg c cc0_stg4_0 (outAt m c))

set_option maxHeartbeats 2000000 in
/-- The body, from `bodyPre` to `bodyPost`, one rule per operation in program order. -/
theorem sound_body (c : Dev nD) (Kt : PUnit → sProp 𝕄) :
    iprop(bodyPre m c ∗ (bodyPost m c -∗ Kt ⟨⟩))
      ⊢ runs c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel
    k0_part11_skel k0_part12_skel
  simp only [semSignalWord, semWaitWord, Prog.lift, Prog.bind_op, Prog.bind_ret, Prog.pure_eq_ret, Prog.bind_assoc, wp_deviceId]
  unfold bodyPre Φ₀ start ghost
  iintro ⟨⟨⟨⟨⟨%K, #HR, HaB, HaS, HaO, HaR, HtB, HtS, HtR⟩, HcB, HcR, #Hlev⟩, %f, Hscr⟩, Ho,
    ⟨%d0, %g0, %hg0, Hx⟩, ⟨%d1, %g1, %hg1, Hr⟩, ⟨%d2, %g2, %hg2, Hi⟩, ⟨%d3, %g3, %hg3, He⟩, ⟨%d4, %g4, %hg4, Hout⟩⟩, Hk⟩
  have h0 : g0 = xin m c := by rw [hg0]; unfold Dat.before; rw [if_pos (fetch0_0 t0_0)]; rfl
  have h1 : g1 = rin m c := by rw [hg1]; unfold Dat.before; rw [if_pos (fetch0_1 t0_0)]; rfl
  have h2 : g2 = iin m c := by rw [hg2]; unfold Dat.before; rw [if_pos (fetch0_2 t0_0)]; rfl
  have h3 : g3 = ein m c := by rw [hg3]; unfold Dat.before; rw [if_pos (fetch0_3 t0_0)]; rfl
  subst h0 h1 h2 h3
  unfold Dat.owesAt Pipeline.owesWithin
  icases Ho with ⟨%W, %hW, HO⟩
  rw [show (dats m 0 c).owed t0_0.castSucc = sigOwes c steps from rfl]
  unfold scrPts
  -- its own expert matrices, into its slot
  iapply (wp_load 𝒱₀ (c : Thread nD τ) none Set.univ (m := (Memref.whole cc0_stg3_0 : Memref sig .tc .vmem S2x128x256 .bf16)) (Finset.subset_univ _)) $$ He; iintro He
  iapply (wp_load 𝒱₀ (c : Thread nD τ) none Set.univ (m := eM) (Finset.subset_univ _)) $$ Hscr; iintro Hscr
  iapply (wp_store 𝒱₀ (c : Thread nD τ) none Set.univ (m := eM)
      (r := Rect.unit (s := S16x128x256) (k0_off1 c) S2x128x256.size (k0_off1_inb c)) (Mk := Finset.univ) (Finset.subset_univ _)) $$ Hscr; iintro Hscr
  ihave Hsl := (stored m c ((k0_off1_eq c).trans (k0_off3_eq c).symm) (k0_off1_inb c) f _
    ((pay1_eq _).trans (Memref.readAt_unit_zero (Elt F) cc0_stg3_0 hz3 _ (ein m c)))) $$ Hscr
  icases Hsl with ⟨Hown, %f', Hsl⟩
  -- the signals
  ihave HO : owing c (sigOwes c steps) $$ [HO]
  · unfold owing; iexists W; iexact HO
  ihave HS := (signals_in c f') $$ [HtB Hsl]
  · isplitl [HtB] <;> iassumption
  icases HS with ⟨S0, S1, S2, S3, S4, S5, S6⟩
  iapply (step_signal m K c _ 0 [1, 2, 3, 4, 5, 6] (Fin.ext (k0_dev1_eq c)) _ rfl _ rfl) $$ [HO S0]
  · isplitr; · iexact HR
    isplitl [HO] <;> iassumption
  iintro HO
  iapply (step_signal m K c _ 1 [2, 3, 4, 5, 6] (Fin.ext (k0_dev2_eq c)) _ rfl _ rfl) $$ [HO S1]
  · isplitr; · iexact HR
    isplitl [HO] <;> iassumption
  iintro HO
  iapply (step_signal m K c _ 2 [3, 4, 5, 6] (Fin.ext (k0_dev3_eq c)) _ rfl _ rfl) $$ [HO S2]
  · isplitr; · iexact HR
    isplitl [HO] <;> iassumption
  iintro HO
  iapply (step_signal m K c _ 3 [4, 5, 6] (Fin.ext (k0_dev4_eq c)) _ rfl _ rfl) $$ [HO S3]
  · isplitr; · iexact HR
    isplitl [HO] <;> iassumption
  iintro HO
  iapply (step_signal m K c _ 4 [5, 6] (Fin.ext (k0_dev5_eq c)) _ rfl _ rfl) $$ [HO S4]
  · isplitr; · iexact HR
    isplitl [HO] <;> iassumption
  iintro HO
  iapply (step_signal m K c _ 5 [6] (Fin.ext (k0_dev6_eq c)) _ rfl _ rfl) $$ [HO S5]
  · isplitr; · iexact HR
    isplitl [HO] <;> iassumption
  iintro HO
  iapply (step_signal m K c _ 6 [] (Fin.ext (k0_dev7_eq c)) _ rfl _ rfl) $$ [HO S6]
  · isplitr; · iexact HR
    isplitl [HO] <;> iassumption
  iintro HO
  -- the barrier
  iapply (step_barrier m K c _ rfl _ rfl) $$ [HO HcB HaB]
  · isplitr; · iexact HR
    isplitr; · iexact Hlev
    isplitl [HO]; · iexact HO
    isplitl [HcB] <;> iassumption
  iintro ⟨HO, HzB, HpB⟩
  -- the transfers
  ihave Hown := (own_deal m c) $$ Hown
  icases Hown with ⟨Hleft, Hrest, Hpay⟩
  ihave HS := (sends_in m c) $$ [Hpay HpB HtS HtR]
  · isplitl [Hpay]; · iexact Hpay
    isplitl [HpB]; · iexact HpB
    isplitl [HtS] <;> iassumption
  icases HS with ⟨S0, S1, S2, S3, S4, S5, S6⟩
  iapply (step_send m K c _ 0 [1, 2, 3, 4, 5, 6] (Fin.ext (k0_dev8_eq c)) (rfl : slotM c = slotM c) (rfl : slotM c = slotM c)
      (sem_send 0 rfl _) (sem_recv c (k0_off2_eq c) _)) $$ [HO S0]
  · isplitr; · iexact HR
    isplitl [HO] <;> iassumption
  iintro ⟨HO, C0⟩
  iapply (step_send m K c _ 1 [2, 3, 4, 5, 6] (Fin.ext (k0_dev9_eq c)) (rfl : slotM c = slotM c) (rfl : slotM c = slotM c)
      (sem_send 1 rfl _) (sem_recv c (k0_off2_eq c) _)) $$ [HO S1]
  · isplitr; · iexact HR
    isplitl [HO] <;> iassumption
  iintro ⟨HO, C1⟩
  iapply (step_send m K c _ 2 [3, 4, 5, 6] (Fin.ext (k0_dev10_eq c)) (rfl : slotM c = slotM c) (rfl : slotM c = slotM c)
      (sem_send 2 rfl _) (sem_recv c (k0_off2_eq c) _)) $$ [HO S2]
  · isplitr; · iexact HR
    isplitl [HO] <;> iassumption
  iintro ⟨HO, C2⟩
  iapply (step_send m K c _ 3 [4, 5, 6] (Fin.ext (k0_dev11_eq c)) (rfl : slotM c = slotM c) (rfl : slotM c = slotM c)
      (sem_send 3 rfl _) (sem_recv c (k0_off2_eq c) _)) $$ [HO S3]
  · isplitr; · iexact HR
    isplitl [HO] <;> iassumption
  iintro ⟨HO, C3⟩
  iapply (step_send m K c _ 4 [5, 6] (Fin.ext (k0_dev12_eq c)) (rfl : slotM c = slotM c) (rfl : slotM c = slotM c)
      (sem_send 4 rfl _) (sem_recv c (k0_off2_eq c) _)) $$ [HO S4]
  · isplitr; · iexact HR
    isplitl [HO] <;> iassumption
  iintro ⟨HO, C4⟩
  iapply (step_send m K c _ 5 [6] (Fin.ext (k0_dev13_eq c)) (rfl : slotM c = slotM c) (rfl : slotM c = slotM c)
      (sem_send 5 rfl _) (sem_recv c (k0_off2_eq c) _)) $$ [HO S5]
  · isplitr; · iexact HR
    isplitl [HO] <;> iassumption
  iintro ⟨HO, C5⟩
  iapply (step_send m K c _ 6 [] (Fin.ext (k0_dev14_eq c)) (rfl : slotM c = slotM c) (rfl : slotM c = slotM c)
      (sem_send 6 rfl _) (sem_recv c (k0_off2_eq c) _)) $$ [HO S6]
  · isplitr; · iexact HR
    isplitl [HO] <;> iassumption
  iintro ⟨HO, C6⟩
  -- the tokens, the router, the chosen experts
  iapply (wp_load 𝒱₀ (c : Thread nD τ) none Set.univ (m := (Memref.whole cc0_stg0_0 : Memref sig .tc .vmem S256x128 .bf16)) (Finset.subset_univ _)) $$ Hx; iintro Hx
  iapply (wp_load 𝒱₀ (c : Thread nD τ) none Set.univ (m := (Memref.whole cc0_stg1_0 : Memref sig .tc .vmem S128x16 .bf16)) (Finset.subset_univ _)) $$ Hr; iintro Hr
  iapply (wp_load 𝒱₀ (c : Thread nD τ) none Set.univ (m := (Memref.whole cc0_stg2_0 : Memref sig .tc .vmem S256x2 .i32)) (Finset.subset_univ _)) $$ Hi; iintro Hi
  iapply (wp_load 𝒱₀ (c : Thread nD τ) none Set.univ (m := (Memref.whole cc0_stg2_0 : Memref sig .tc .vmem S256x2 .i32)) (Finset.subset_univ _)) $$ Hi; iintro Hi
  -- the arrivals
  ihave HO := (Entails.of_eq (show (owing c (sendOwes c []) : sProp 𝕄) = owing c 0 from rfl)) $$ HO
  ihave HS := (recvs_in c) $$ [HcR HaR]
  · isplitl [HcR] <;> iassumption
  icases HS with ⟨S0, S1, S2, S3, S4, S5, S6⟩
  iapply (step_recv m K c (dn c 0) (dn_ne c 0) (sem_recv (dn c 0) (k0_off4_eq c 0) _) (slice_credit _ _ _)) $$ [HO S0]
  · isplitr; · iexact HR
    isplitl [HO] <;> iassumption
  iintro ⟨HO, D0⟩
  iapply (step_recv m K c (dn c 1) (dn_ne c 1) (sem_recv (dn c 1) (k0_off4_eq c 1) _) (slice_credit _ _ _)) $$ [HO S1]
  · isplitr; · iexact HR
    isplitl [HO] <;> iassumption
  iintro ⟨HO, D1⟩
  iapply (step_recv m K c (dn c 2) (dn_ne c 2) (sem_recv (dn c 2) (k0_off4_eq c 2) _) (slice_credit _ _ _)) $$ [HO S2]
  · isplitr; · iexact HR
    isplitl [HO] <;> iassumption
  iintro ⟨HO, D2⟩
  iapply (step_recv m K c (dn c 3) (dn_ne c 3) (sem_recv (dn c 3) (k0_off4_eq c 3) _) (slice_credit _ _ _)) $$ [HO S3]
  · isplitr; · iexact HR
    isplitl [HO] <;> iassumption
  iintro ⟨HO, D3⟩
  iapply (step_recv m K c (dn c 4) (dn_ne c 4) (sem_recv (dn c 4) (k0_off4_eq c 4) _) (slice_credit _ _ _)) $$ [HO S4]
  · isplitr; · iexact HR
    isplitl [HO] <;> iassumption
  iintro ⟨HO, D4⟩
  iapply (step_recv m K c (dn c 5) (dn_ne c 5) (sem_recv (dn c 5) (k0_off4_eq c 5) _) (slice_credit _ _ _)) $$ [HO S5]
  · isplitr; · iexact HR
    isplitl [HO] <;> iassumption
  iintro ⟨HO, D5⟩
  iapply (step_recv m K c (dn c 6) (dn_ne c 6) (sem_recv (dn c 6) (k0_off4_eq c 6) _) (slice_credit _ _ _)) $$ [HO S6]
  · isplitr; · iexact HR
    isplitl [HO] <;> iassumption
  iintro ⟨HO, D6⟩
  ihave D := (fin7_intro fun k : Fin 7 => iprop(semVal (recvCell c (dn c k)) 0 ∗ recvPay m c (dn c k))) $$ [D0 D1 D2 D3 D4 D5 D6]
  · isplitl [D0]; · iexact D0
    isplitl [D1]; · iexact D1
    isplitl [D2]; · iexact D2
    isplitl [D3]; · iexact D3
    isplitl [D4]; · iexact D4
    isplitl [D5]; · iexact D5
    iexact D6
  ihave D := (Entails.of_eq (bigSep_sep' Finset.univ (fun k : Fin 7 => (semVal (recvCell c (dn c k)) 0 : sProp 𝕄)) fun k : Fin 7 => recvPay m c (dn c k))) $$ D
  icases D with ⟨HzR, HpR⟩
  ihave HG := (gathered m c) $$ [Hleft HpR]
  · isplitl [Hleft] <;> iassumption
  icases HG with ⟨Hscr, Hhalf⟩
  unfold scrPts
  -- the sixteen matrices, and the result
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := eM) (Finset.subset_univ _)) $$ Hscr; iintro Hscr
  iapply (wp_load 𝒱₀ (c : Thread nD τ) none Set.univ (m := (Memref.whole cc0_stg4_0 : Memref sig .tc .vmem S256x256 .f32)) (Finset.subset_univ _)) $$ Hout; iintro Hout
  iapply (wp_store 𝒱₀ (c : Thread nD τ) none Set.univ (m := (Memref.whole cc0_stg4_0 : Memref sig .tc .vmem S256x256 .f32))
      (r := Rect.unit (s := S256x256) ![0, 0] S256x256.size inb_S256x256_S256x256_0_0) (Mk := Finset.univ) (Finset.subset_univ _)) $$ Hout; iintro Hout
  -- the departures
  ihave HaS := (Entails.of_eq (bigSep_fin7 fun k : Fin 7 => (atPos ER (sendCell c k) 0 ∅ 0 : sProp 𝕄))) $$ HaS
  icases HaS with ⟨A0, A1, A2, A3, A4, A5, A6⟩
  iapply (step_gone m K c 0 (sem_send 0 rfl _) (slice_credit _ _ _)) $$ [HO C0 A0]
  · isplitr; · iexact HR
    isplitl [HO]; · iexact HO
    unfold goneIn; isplitl [C0] <;> iassumption
  iintro ⟨HO, E0⟩
  iapply (step_gone m K c 1 (sem_send 1 rfl _) (slice_credit _ _ _)) $$ [HO C1 A1]
  · isplitr; · iexact HR
    isplitl [HO]; · iexact HO
    unfold goneIn; isplitl [C1] <;> iassumption
  iintro ⟨HO, E1⟩
  iapply (step_gone m K c 2 (sem_send 2 rfl _) (slice_credit _ _ _)) $$ [HO C2 A2]
  · isplitr; · iexact HR
    isplitl [HO]; · iexact HO
    unfold goneIn; isplitl [C2] <;> iassumption
  iintro ⟨HO, E2⟩
  iapply (step_gone m K c 3 (sem_send 3 rfl _) (slice_credit _ _ _)) $$ [HO C3 A3]
  · isplitr; · iexact HR
    isplitl [HO]; · iexact HO
    unfold goneIn; isplitl [C3] <;> iassumption
  iintro ⟨HO, E3⟩
  iapply (step_gone m K c 4 (sem_send 4 rfl _) (slice_credit _ _ _)) $$ [HO C4 A4]
  · isplitr; · iexact HR
    isplitl [HO]; · iexact HO
    unfold goneIn; isplitl [C4] <;> iassumption
  iintro ⟨HO, E4⟩
  iapply (step_gone m K c 5 (sem_send 5 rfl _) (slice_credit _ _ _)) $$ [HO C5 A5]
  · isplitr; · iexact HR
    isplitl [HO]; · iexact HO
    unfold goneIn; isplitl [C5] <;> iassumption
  iintro ⟨HO, E5⟩
  iapply (step_gone m K c 6 (sem_send 6 rfl _) (slice_credit _ _ _)) $$ [HO C6 A6]
  · isplitr; · iexact HR
    isplitl [HO]; · iexact HO
    unfold goneIn; isplitl [C6] <;> iassumption
  iintro ⟨HO, E6⟩
  ihave E := (fin7_intro fun k : Fin 7 => iprop(semVal (sendCell c k) 0 ∗ sendPay m c k)) $$ [E0 E1 E2 E3 E4 E5 E6]
  · isplitl [E0]; · iexact E0
    isplitl [E1]; · iexact E1
    isplitl [E2]; · iexact E2
    isplitl [E3]; · iexact E3
    isplitl [E4]; · iexact E4
    isplitl [E5]; · iexact E5
    iexact E6
  ihave E := (Entails.of_eq (bigSep_sep' Finset.univ (fun k : Fin 7 => (semVal (sendCell c k) 0 : sProp 𝕄)) fun k : Fin 7 => sendPay m c k)) $$ E
  icases E with ⟨HzS, HpS⟩
  -- the arrival of its own slot, which is never used
  imod (Rounds.cell_close ER (sch m) (Set.mem_univ (K (c, ixR c))) (fun h => h) (R := 0) (duties_unused m c)) $$ [HaO] with HzO
  · isplitr; · iapply (inv_of m (c, ixR c) (kcell_R c c)); iexact HR
    iexact HaO
  rw [wp_ret]; imodintro
  iapply Hk
  unfold bodyPost Φ₁ Dat.owesAt Pipeline.owesWithin
  rw [show (dats m 0 c).owed t0_0.succ = 0 from rfl]
  isplitl [Hscr Hhalf Hrest HpS HzB HzS HzO HzR]
  · isplitl [Hscr Hhalf Hrest HpS]
    · iapply (scr_collect m c)
      isplitl [Hscr]; · unfold scrPts; iexact Hscr
      isplitl [Hhalf]; · iexact Hhalf
      isplitl [Hrest] <;> iassumption
    isplitl [HzB]; · iexact HzB
    isplitl [HzS]; · iexact HzS
    isplitl [HzO] <;> iassumption
  isplitl [HO]
  · unfold owing
    icases HO with ⟨%W', HO⟩
    iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [He]
  · iexists _; isplitr; · (ipureintro; rfl)
    iexact He
  iexists _; isplitr; swap; · iexact Hout
  ipureintro
  refine (Memref.write_access_unit_zero_univ (Elt F) cc0_stg4_0 hz2 _ g4 _).trans ?_
  unfold outAt toks gates rowAt icolAt xRead rRead
  rfl

set_option maxHeartbeats 1000000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ runs c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _) cc0_scratch1 cc0_scratch2) (fun _ => bodyPost m c)
  iintro H
  iapply (sound_body m c fun _ => bodyPost m c)
  isplitl [H]; · iexact H
  iintro H; iexact H

end Cert.Moe

end
-- ==== Proof.Launch.lean ====
/-
# The launch

The protocol's resources at the start, dealt to the devices; what each device is owed; the run of the whole program on
the eight devices, for any float values.
-/
module

public import Idealize.ShloMosaic.Lib.Pipeline.CollectiveSegs
public import proofs.«01_k».proof.Proof.Body

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The sixteen semaphores of a device -/

/-- Separating conjunctions may be bracketed to the right. -/
theorem sep_right (P Q R : sProp 𝕄) : iprop((P ∗ Q) ∗ R) = iprop(P ∗ Q ∗ R) := equiv_iff.mp ⟨BI.sep_assoc, BI.sep_assoc'⟩

/-- Over the sixteen: the barrier, the departures, the arrivals. -/
theorem cells16 (Φ : Fin 16 → sProp 𝕄) :
    bigSep Finset.univ Φ = iprop(Φ 0 ∗ (bigSep Finset.univ fun k : Fin 7 => Φ (ixS k)) ∗ bigSep Finset.univ fun p : Dev nD => Φ (ixR p)) := by
  rw [bigSep_univ_eq_bigSepL [0, 1, 2, 3, 4, 5, 6, 7, 8, 9, 10, 11, 12, 13, 14, 15] (by decide) (by decide) Φ, bigSep_fin7,
    bigSep_univ_eq_bigSepL ([0, 1, 2, 3, 4, 5, 6, 7] : List (Dev nD)) (by decide) (by decide) fun p : Dev nD => Φ (ixR p)]
  simp only [sep_right]
  rfl

/-- Over the sixteen cells of device `c`: the barrier, the departures, its own arrival, the arrivals from below. -/
theorem cells_of (c : Dev nD) (Φ : GSem nD τ sig → sProp 𝕄) :
    (bigSep Finset.univ fun i : Fin 16 => Φ (kcell (c, i)))
      = iprop(Φ (barCell c) ∗ (bigSep Finset.univ fun k : Fin 7 => Φ (sendCell c k)) ∗ Φ (recvCell c c)
          ∗ bigSep Finset.univ fun k : Fin 7 => Φ (recvCell c (dn c k))) := by
  rw [cells16, devs_dn c]
  simp only [kcell_S, kcell_R]
  rfl

/-- The kernel's own semaphores and the barrier, at zero. -/
theorem sems0_eq (c : Dev nD) :
    (iprop(unscopedSems0 c ∗ Pipeline.ownSems0 (Ix := Unit) (Name := ℕ) (U := UU) (Lvl := ℕ) (Val := Elt F) (τ := τ) osem c) : sProp 𝕄)
      = bigSep Finset.univ fun i : Fin 16 => semVal (kcell (c, i)) 0 := by
  rw [Pipeline.ownSems0_eq_of_list c osem [0, 1, 2, 3, 4, 5, 6, 7, 8, 9, 10, 11, 12, 13, 14] (by decide) (by decide),
    bigSep_univ_eq_bigSepL [0, 1, 2, 3, 4, 5, 6, 7, 8, 9, 10, 11, 12, 13, 14, 15] (by decide) (by decide) fun i : Fin 16 => (semVal (kcell (c, i)) 0 : sProp 𝕄)]
  unfold unscopedSems0
  rw [bigSep_eq_bigSepL_of_eq [SemLoc.reg barS] (by decide) (by decide)]
  rfl

theorem ownSemFacts : Pipeline.OwnSemFacts cfg0.spec osem := by decide

theorem share_eq (c : Dev nD) (w : Fin cfg0.W) : (dats m 0 c).share w = fullShare := by unfold Dat.share; split <;> rfl

/-! ## The resources at the start -/

def cells : Finset (GSem nD τ sig) := Finset.univ.map ⟨kcell, kcell_injective⟩

/-- One token for every semaphore and every duty name; -/
abbrev tokOf (x : (Dev nD × Fin 16) × Fin 7) : GSem nD τ sig × ℕ × Fin 7 := (kcell x.1, 0, x.2)
theorem tokOf_injective : Function.Injective tokOf := fun x y h =>
  Prod.ext (kcell_injective (congrArg Prod.fst h)) (congrArg (fun z : GSem nD τ sig × ℕ × Fin 7 => z.2.2) h)
def tokens : Finset (GSem nD τ sig × ℕ × Fin 7) := Finset.univ.map ⟨tokOf, tokOf_injective⟩

def u₀ : UU := (initOf (Pipeline.cells cfgs cellOf_inj) (Pipeline.launchToks cfgs cellOf_inj), initOf cells tokens)

/-- the tokens of device `c`'s own semaphores; -/
def allToks (c : Dev nD) : sProp 𝕄 := bigSep Finset.univ fun i : Fin 16 => bigSep Finset.univ fun d : Fin 7 => dutyTok ER (kcell (c, i)) 0 d
/-- of those, the tokens in use; -/
def ownToks (c : Dev nD) : sProp 𝕄 :=
  iprop((bigSep Finset.univ fun d : Fin 7 => dutyTok ER (barCell c) 0 d) ∗ (bigSep Finset.univ fun k : Fin 7 => dutyTok ER (sendCell c k) 0 0)
    ∗ bigSep Finset.univ fun k : Fin 7 => dutyTok ER (recvCell c (dn c k)) 0 0)
/-- and the tokens of the credits device `c` pays. -/
def payToks (c : Dev nD) : sProp 𝕄 :=
  iprop((bigSep Finset.univ fun k : Fin 7 => dutyTok ER (barCell (up c k)) 0 k.rev) ∗ (bigSep Finset.univ fun k : Fin 7 => dutyTok ER (sendCell c k) 0 0)
    ∗ bigSep Finset.univ fun k : Fin 7 => dutyTok ER (recvCell (up c k) c) 0 0)

/-- What the launch deals device `c`. -/
def G (c : Dev nD) : sProp 𝕄 :=
  iprop((bigSep Finset.univ fun i : Fin 16 => roundState ER (sch m) (kcell (c, i)) 0)
    ∗ (bigSep Finset.univ fun i : Fin 16 => iprop(atPos ER (kcell (c, i)) 0 ∅ 0 ∗ reached ER (kcell (c, i)) 0)) ∗ allToks c)

/-- What the devices make of it together. -/
def G' (c : Dev nD) : sProp 𝕄 := iprop(∃ K, ghost m K c)

theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun i : Fin 16 => Φ (kcell (c, i)) := by
    unfold cells; rw [bigSep_map, bigSep_univ_prod]; rfl
  have hT : bigSep tokens (fun x => (dutyTok ER x.1 x.2.1 x.2.2 : sProp 𝕄)) = bigSep Finset.univ fun c : Dev nD => allToks c := by
    unfold tokens allToks; rw [bigSep_map, bigSep_univ_prod, bigSep_univ_prod]; rfl
  iintro HX
  imod (Rounds.fund ER (sch m) cells tokens) $$ HX with ⟨Hst, Hr, Hat, Htok⟩
  imodintro
  ihave Hst' := (Entails.of_eq (hX fun g => roundState ER (sch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Every semaphore's invariant is opened for business: its counter and its round go in. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (sch m) κ (kcell (c, i))))
          ∗ (bigSep Finset.univ fun i => iprop(atPos ER (kcell (c, i)) 0 ∅ 0 ∗ reached ER (kcell (c, i)) 0)) ∗ allToks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun i : Fin 16 => semVal (kcell (c, i)) 0) ∗ bigSep Finset.univ fun i : Fin 16 => roundState ER (sch m) (kcell (c, i)) 0)
      ⊢ (|={Set.univ}=> bigSep Finset.univ fun i => iprop(∃ κ : ℕ, cellInv ER (sch m) κ (kcell (c, i))) : sProp 𝕄) from by
        rw [← bigSep_sep']
        exact (bigSep_mono fun i _ => (Rounds.body_intro ER (sch m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens in use are among a device's own; -/
theorem ownToks_of_all (c : Dev nD) : (allToks c : sProp 𝕄) ⊢ ownToks c := by
  have one (g : GSem nD τ sig) : (bigSep Finset.univ fun d : Fin 7 => (dutyTok ER g 0 d : sProp 𝕄)) ⊢ dutyTok ER g 0 0 := bigSep_elim (Finset.mem_univ 0)
  have hS : (bigSep Finset.univ fun k : Fin 7 => bigSep Finset.univ fun d : Fin 7 => (dutyTok ER (sendCell c k) 0 d : sProp 𝕄))
      ⊢ bigSep Finset.univ fun k : Fin 7 => dutyTok ER (sendCell c k) 0 0 := bigSep_mono fun k _ => one _
  have hR : (bigSep Finset.univ fun k : Fin 7 => bigSep Finset.univ fun d : Fin 7 => (dutyTok ER (recvCell c (dn c k)) 0 d : sProp 𝕄))
      ⊢ bigSep Finset.univ fun k : Fin 7 => dutyTok ER (recvCell c (dn c k)) 0 0 := bigSep_mono fun k _ => one _
  unfold allToks ownToks
  rw [cells_of c fun g => bigSep Finset.univ fun d : Fin 7 => dutyTok ER g 0 d]
  iintro ⟨HB, HS, -, HR⟩
  isplitl [HB]; · iexact HB
  isplitl [HS]; · iapply hS; iexact HS
  iapply hR; iexact HR

/-- and dealt around they are the ones each device pays with: a barrier's token `d` to the device `d` steps above, an
    arrival's token to its sender. -/
theorem toks_around : (bigSep Finset.univ fun c : Dev nD => (allToks c : sProp 𝕄)) ⊢ bigSep Finset.univ fun c : Dev nD => payToks c := by
  have hB : (bigSep Finset.univ fun c : Dev nD => bigSep Finset.univ fun d : Fin 7 => (dutyTok ER (barCell c) 0 d : sProp 𝕄))
      = bigSep Finset.univ fun c : Dev nD => bigSep Finset.univ fun k : Fin 7 => dutyTok ER (barCell (up c k)) 0 k.rev := by
    rw [bigSep_univ_comm, bigSep_univ_comm (fun (c : Dev nD) (k : Fin 7) => (dutyTok ER (barCell (up c k)) 0 k.rev : sProp 𝕄)),
      bigSep_univ_equiv (Fin.revPerm : Equiv.Perm (Fin 7))]
    exact bigSep_congr fun k _ => bigSep_univ_equiv (ring k) fun c : Dev nD => (dutyTok ER (barCell c) 0 k.rev : sProp 𝕄)
  have hR : (bigSep Finset.univ fun c : Dev nD => bigSep Finset.univ fun k : Fin 7 => (dutyTok ER (recvCell c (dn c k)) 0 0 : sProp 𝕄))
      = bigSep Finset.univ fun c : Dev nD => bigSep Finset.univ fun k : Fin 7 => dutyTok ER (recvCell (up c k) c) 0 0 := by
    rw [bigSep_univ_comm, bigSep_univ_comm (fun (c : Dev nD) (k : Fin 7) => (dutyTok ER (recvCell (up c k) c) 0 0 : sProp 𝕄))]
    refine bigSep_congr fun k _ => (bigSep_univ_equiv (ring k) fun c : Dev nD => (dutyTok ER (recvCell c (dn c k)) 0 0 : sProp 𝕄)).trans ?_
    refine bigSep_congr fun c _ => ?_
    show (dutyTok ER (recvCell (up c k) (dn (up c k) k)) 0 0 : sProp 𝕄) = _
    rw [dn_up]
  refine (show (bigSep Finset.univ fun c : Dev nD => (allToks c : sProp 𝕄)) ⊢ bigSep Finset.univ fun c : Dev nD => ownToks c
    from bigSep_mono fun c _ => ownToks_of_all c).trans (Entails.of_eq ?_)
  unfold ownToks payToks
  rw [bigSep_sep', bigSep_sep', bigSep_sep', bigSep_sep', hB, hR]

/-- What stays with device `c`: its places, and the tokens of the credits it pays. -/
def linear (c : Dev nD) : sProp 𝕄 := iprop((bigSep Finset.univ fun i : Fin 16 => atPos ER (kcell (c, i)) 0 ∅ 0) ∗ payToks c)

theorem ghost_intro (K : Dev nD × Fin 16 → ℕ) (c : Dev nD) : iprop(records m K ∗ linear c) ⊢ G' m c := by
  unfold linear payToks G' ghost
  rw [cells_of c fun g => (atPos ER g 0 ∅ 0 : sProp 𝕄)]
  iintro ⟨#HR, ⟨HaB, HaS, HaO, HaR⟩, HtB, HtS, HtR⟩
  iexists K
  isplitr; · iexact HR
  isplitl [HaB]; · iexact HaB
  isplitl [HaS]; · iexact HaS
  isplitl [HaO]; · iexact HaO
  isplitl [HaR]; · iexact HaR
  isplitl [HtB]; · iexact HtB
  isplitl [HtS]; · iexact HtS
  iexact HtR

/-- A lasting fact goes with every member of a family. -/
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The names of all invariants are chosen, and every device gets the records and its part. -/
theorem regroup :
    (bigSep Finset.univ fun c : Dev nD => iprop((bigSep Finset.univ fun i => iprop(∃ κ : ℕ, cellInv ER (sch m) κ (kcell (c, i))))
          ∗ (bigSep Finset.univ fun i => iprop(atPos ER (kcell (c, i)) 0 ∅ 0 ∗ reached ER (kcell (c, i)) 0)) ∗ allToks c) : sProp 𝕄)
      ⊢ bigSep Finset.univ (G' m) := by
  rw [bigSep_sep', bigSep_sep', ← bigSep_univ_prod (fun ci : Dev nD × Fin 16 => iprop(∃ κ : ℕ, cellInv ER (sch m) κ (kcell ci))),
    bigSep_congr (s := Finset.univ) (fun (c : Dev nD) _ => bigSep_sep' Finset.univ (fun i : Fin 16 => (atPos ER (kcell (c, i)) 0 ∅ 0 : sProp 𝕄)) (fun i => reached ER (kcell (c, i)) 0)),
    bigSep_sep', ← bigSep_univ_prod (fun ci : Dev nD × Fin 16 => (reached ER (kcell ci) 0 : sProp 𝕄))]
  iintro ⟨HI, ⟨Hat, #HR⟩, Htok⟩
  ihave HK := (BI.bigSep_exists_pi Finset.univ (fun (ci : Dev nD × Fin 16) (κ : ℕ) => (cellInv ER (sch m) κ (kcell ci) : sProp 𝕄))) $$ HI
  icases HK with ⟨%K, #HI⟩
  ihave Htk := (toks_around (F := F)) $$ Htok
  iapply (with_records (R := records m K) fun c _ => ghost_intro m K c)
  isplitr
  · unfold records; isplitl; · iexact HI
    iexact HR
  · unfold linear
    iapply (Entails.of_eq (bigSep_sep' Finset.univ (fun c : Dev nD => bigSep Finset.univ fun i : Fin 16 => (atPos ER (kcell (c, i)) 0 ∅ 0 : sProp 𝕄)) payToks).symm)
    isplitl [Hat]; · iexact Hat
    iexact Htk

/-- All devices' semaphores and deals together give every device its part. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed to a device -/

theorem recv_ne_bar (c d p : Dev nD) : recvCell c p ≠ barCell d := fun h => by cases congrArg Prod.snd h
theorem bar_inj {a b : Dev nD} (h : barCell a = barCell b) : a = b := congrArg (fun g : GSem nD τ sig => g.1.1) h
theorem recv_inj {a b p q : Dev nD} (h : recvCell a p = recvCell b q) : a = b ∧ p = q :=
  ⟨congrArg (fun g : GSem nD τ sig => g.1.1) h, by
    have e : recvS p = recvS q := by injection congrArg Prod.snd h
    rw [← devOf_recv p, e, devOf_recv]⟩

/-- Device `d`'s transfers owe device `c`'s barrier nothing; -/
theorem sendOwes_bar (d c : Dev nD) (js : List (Fin 7)) : sendOwes d js (barCell c) () = 0 := by
  induction js with
  | nil => rfl
  | cons j js ih =>
    rw [sendOwes_cons, Pi.add_apply, Finsupp.add_apply, ih, tallyAt_apply, if_neg fun h => recv_ne_bar _ _ _ h.1.symm]
/-- its signals a unit for each that goes to `c`; -/
theorem sigOwes_bar (d c : Dev nD) (ks : List (Fin 7)) : sigOwes d ks (barCell c) () = ks.countP fun k => decide (up d k = c) := by
  induction ks with
  | nil => exact sendOwes_bar d c steps
  | cons k ks ih =>
    show (sigOwes d ks + tallyAt (barCell (up d k)) () 1) (barCell c) () = _
    rw [Pi.add_apply, Finsupp.add_apply, ih, tallyAt_apply, List.countP_cons]
    by_cases h : up d k = c
    · rw [if_pos ⟨by rw [h], rfl⟩, if_pos (decide_eq_true h)]
    · rw [if_neg fun h' => h (bar_inj h'.1).symm, if_neg (by simpa using h)]
/-- its transfers owe the arrival of `p` at `c` a slot's credit for each that goes to `c`, if `d` is `p`; -/
theorem sendOwes_recv (d c p : Dev nD) (js : List (Fin 7)) :
    sendOwes d js (recvCell c p) () = N * js.countP fun j => decide (up d j = c ∧ d = p) := by
  induction js with
  | nil => rfl
  | cons j js ih =>
    rw [sendOwes_cons, Pi.add_apply, Finsupp.add_apply, ih, tallyAt_apply, List.countP_cons, Nat.mul_add]
    by_cases h : up d j = c ∧ d = p
    · rw [if_pos ⟨by rw [h.1, h.2], rfl⟩, if_pos (decide_eq_true h), Nat.mul_one]
    · rw [if_neg fun h' => h ⟨(recv_inj h'.1).1.symm, (recv_inj h'.1).2.symm⟩, if_neg (by simpa using h), Nat.mul_zero]
/-- and its signals nothing. -/
theorem sigOwes_recv (d c p : Dev nD) (ks : List (Fin 7)) : sigOwes d ks (recvCell c p) () = sendOwes d steps (recvCell c p) () := by
  induction ks with
  | nil => rfl
  | cons k ks ih =>
    show (sigOwes d ks + tallyAt (barCell (up d k)) () 1) (recvCell c p) () = _
    rw [Pi.add_apply, Finsupp.add_apply, ih, tallyAt_apply, if_neg fun h => recv_ne_bar _ _ _ h.1, Nat.add_zero]

/-- What device `c` owes at the start. -/
abbrev O₀ (c : Dev nD) : CellTallies nD τ sig Unit := sigOwes c steps

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => sigOwes_bar d c steps]
  revert c; decide +kernel

theorem launch_recv (c : Dev nD) (k : Fin 7) :
    tallyOn (recvCell c (dn c k)) (launchCredit (Pipeline.owing O₀) 0 (recvCell c (dn c k))) = (tallyAt (recvCell c (dn c k)) () N : CellTallies nD τ sig Unit) := by
  unfold tallyAt; refine congrArg _ (Finsupp.ext fun u => ?_); cases u
  rw [Pipeline.launchCredit_owing, Finsupp.single_eq_same,
    Finset.sum_congr rfl fun d _ => (sigOwes_recv d c (dn c k) steps).trans (sendOwes_recv d c (dn c k) steps), ← Finset.mul_sum]
  have h : (∑ d : Dev nD, steps.countP fun j => decide (up d j = c ∧ d = dn c k)) = 1 := by revert c k; decide +kernel
  rw [h, Nat.mul_one]

/-- The credits a device starts with: its barrier's and its arrivals'. -/
theorem creds (c : Dev nD) :
    (Pipeline.launchCred O₀ c : sProp 𝕄) ⊢ iprop(cred (tallyAt (barCell c) () 7) ∗ bigSep Finset.univ fun k : Fin 7 => cred (tallyAt (recvCell c (dn c k)) () N)) := by
  unfold Pipeline.launchCred
  have h : (bigSep Finset.univ fun sm : SemLoc sig => (cred (tallyOn ((c.tc : Thread nD τ), sm) (launchCredit (Pipeline.owing O₀) 0 ((c.tc : Thread nD τ), sm))) : sProp 𝕄))
      ⊢ bigSep Finset.univ fun i : Fin 16 => cred (tallyOn (kcell (c, i)) (launchCredit (Pipeline.owing O₀) 0 (kcell (c, i)))) :=
    (bigSep_subset (Finset.subset_univ (Finset.univ.map ⟨csem, csem_injective⟩))).trans (Entails.of_eq (bigSep_map _))
  refine h.trans ?_
  rw [cells_of c fun g => (cred (tallyOn g (launchCredit (Pipeline.owing O₀) 0 g)) : sProp 𝕄), launch_bar]
  simp only [launch_recv]
  iintro ⟨HB, -, -, HR⟩
  isplitl [HB] <;> iassumption

/-! ## The sides of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, HR⟩
  imodintro
  unfold start G'
  isplitl
  · isplitl [HG]; · iexact HG
    isplitl [HB]; · iexact HB
    isplitl [HR]; · iexact HR
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; unfold scrPts; iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ← sep_right, sems0_eq, cells_of c fun g => (semVal g 0 : sProp 𝕄)]
  unfold Φ₁ scrPts
  iintro ⟨Hr, Hz⟩
  isplitl [Hz]; · iexact Hz
  iexists (gath m); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What window `w`'s array of device `c` holds at the end. -/
def finalA (c : Dev nD) (w : Fin cfg0.W) : Buf (Elt F) ((cfg0.win w).arr.view.loc (c : Thread nD τ)) := (dats m 0 c).arrAt w cfg0.N

/-- For any float values, from any memory with zero counters: every fair execution of the program on the eight devices
    ends, with every array at `finalA` and every semaphore at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began. -/
theorem finalA_in (c : Dev nD) (w : Fin cfg0.W) (h : (cfg0.win w).isOut = false) :
    finalA m c w = m ((cfg0.win w).arr.view.loc (c : Thread nD τ)) := (dats m 0 c).arrAt_in w h _

/-! ## The frames -/

/-- The post of a frame: on every device the four arguments are as they began. -/
abbrev Kept (s : MemSt nD τ sig (Elt F)) : Prop := ∀ c : Dev nD,
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

theorem kept_of {s : MemSt nD τ sig (Elt F)} (h : ∀ c : Dev nD, ∀ w : Fin cfg0.W, s.mem ((cfg0.win w).arr.view.loc (c : Thread nD τ)) = finalA m c w) :
    Kept m s := fun c =>
  ⟨(h c 0).trans (finalA_in m c 0 rfl), (h c 1).trans (finalA_in m c 1 rfl), (h c 2).trans (finalA_in m c 2 rfl), (h c 3).trans (finalA_in m c 3 rfl)⟩

end Cert.Moe

end
-- ==== Proof.Frames.lean ====
/-
# The frames

Kernel and reference end, with their arguments as they began and every semaphore at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Adequacy
public import Idealize.ShloMosaic.Init

@[expose] public section

set_option maxRecDepth 16384

noncomputable section

namespace Cert.Moe

open Idealize.ShloMosaic Idealize.SL.Sem

/-- The kernel over any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => Kept m r.2 ∧ r.2.sem = fun _ => 0) :=
  (θ_run Cert.KernelIdeal.defs _ _).mono (fun _ h => ⟨kept_of m h.1, h.2⟩) (run_main m ρ)

/-- The two programs have the same kernel body, -/
theorem defs₀_eq : Cert.Kernel.defs₀ (F := Bits) = Cert.KernelIdeal.defs₀ (F := Bits) := by
  unfold Cert.Kernel.defs₀ Cert.KernelIdeal.defs₀
  refine congrArg _ ?_
  funext l a
  obtain ⟨_ | n, h⟩ := l
  · rfl
  · omega
/-- so the same table. -/
theorem defs_eq : Cert.Kernel.defs (F := Bits) = Cert.KernelIdeal.defs (F := Bits) :=
  congrArg (Pipeline.defs Cert.KernelIdeal.pcfgs) defs₀_eq

/-- The kernel over the machine's floats: its text is the ideal program's. -/
theorem frame_kernel : Cert.quiescent_Kernel := fun m ρ _ => by
  rw [defs_eq]
  exact frame_any (F := Bits) m ρ

/-- The reference. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Token.lean ====
/-
# Two experts a token

The arithmetic of one token, over the extended reals. A softmax of real scores is a positive real at every expert, so the
weights of the experts are nonnegative reals, and a sum over all sixteen experts that weighs the two named ones by their
softmax and every other by zero is the weighted sum of the two. The matrices' entries may be anything.
-/
module

public import Idealize.ShloMosaic.Lib.Pointwise

@[expose] public section

set_option maxRecDepth 16384

noncomputable section

namespace Cert.Moe

open Idealize.ShloMosaic

/-- The score of expert `e` for the token `x` under the router `r`; -/
def score (x : Fin 128 → EReal) (r : Fin 128 → Fin 16 → EReal) (e : Fin 16) : EReal := ∑ k, x k * r k e

/-- the softmax of scores `s`, at expert `e`. -/
def soft (s : Fin 16 → EReal) (e : Fin 16) : EReal :=
  Ideal.div (Ideal.exp (s e - Finset.univ.fold max (Ideal.ofBits .f32 0xFF800000#32) s))
    (∑ e', Ideal.exp (s e' - Finset.univ.fold max (Ideal.ofBits .f32 0xFF800000#32) s))

/-- An extended real that is neither infinity. -/
def IsReal (x : EReal) : Prop := x ≠ ⊤ ∧ x ≠ ⊥

/-- What is neither infinity is a real. -/
theorem IsReal.real {x : EReal} (h : IsReal x) : ∃ a : ℝ, x = (a : EReal) := ⟨x.toReal, (EReal.coe_toReal h.1 h.2).symm⟩

/-- A sum of reals, as an extended real. -/
theorem coe_sum {ι : Type} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The pattern the maxima start from is not plus infinity. -/
theorem start_ne_top : Ideal.ofBits .f32 0xFF800000#32 < (⊤ : EReal) := by
  have h : Ideal.ofBits .f32 0xFF800000#32 = (⊥ : EReal) := by
    unfold Ideal.ofBits
    simp [Ideal.ieee]
  rw [h]; exact bot_lt_top

/-- A score of finite entries is a real. -/
theorem score_real {x : Fin 128 → EReal} {r : Fin 128 → Fin 16 → EReal} (hx : ∀ k, IsReal (x k)) (hr : ∀ k e, IsReal (r k e)) (e : Fin 16) :
    ∃ a : ℝ, score x r e = (a : EReal) := by
  choose f hf using fun k => (hx k).real
  choose g hg using fun k => (hr k e).real
  refine ⟨∑ k, f k * g k, ?_⟩
  unfold score
  rw [coe_sum]
  exact Finset.sum_congr rfl fun k _ => by rw [hf, hg, EReal.coe_mul]

/-- The quotient of a real by a nonzero real. -/
theorem div_reals (a : ℝ) {b : ℝ} (h : b ≠ 0) : Ideal.div (a : EReal) (b : EReal) = ((a / b : ℝ) : EReal) := by
  rw [Ideal.div_coe h, ← EReal.coe_mul, mul_one_div]

/-- A softmax of real scores is a positive real at every expert. -/
theorem soft_real {s : Fin 16 → EReal} (hs : ∀ e, ∃ a : ℝ, s e = (a : EReal)) (e : Fin 16) : ∃ p : ℝ, 0 < p ∧ soft s e = (p : EReal) := by
  choose f hf using hs
  have hM : ∃ M : ℝ, Finset.univ.fold max (Ideal.ofBits .f32 0xFF800000#32) s = (M : EReal) := by
    refine IsReal.real ⟨?_, ?_⟩
    · refine ne_of_lt ((Finset.fold_max_lt _).mpr ⟨start_ne_top, fun e _ => ?_⟩)
      rw [hf]; exact EReal.coe_lt_top _
    · refine ne_of_gt ((Finset.lt_fold_max _).mpr (Or.inr ⟨0, Finset.mem_univ _, ?_⟩))
      rw [hf]; exact EReal.bot_lt_coe _
  obtain ⟨M, hM⟩ := hM
  have he (e' : Fin 16) : Ideal.exp (s e' - (M : EReal)) = ((Real.exp (f e' - M) : ℝ) : EReal) := by
    rw [hf, ← EReal.coe_sub, Ideal.exp_coe]
  have hp : 0 < ∑ e', Real.exp (f e' - M) := Finset.sum_pos (fun _ _ => Real.exp_pos _) Finset.univ_nonempty
  refine ⟨Real.exp (f e - M) / ∑ e', Real.exp (f e' - M), div_pos (Real.exp_pos _) hp, ?_⟩
  unfold soft
  rw [hM, he, Finset.sum_congr rfl fun e' _ => he e', ← coe_sum, div_reals _ hp.ne']

/-! ## The weights -/

/-- The softmax at the two named experts, zero at the others; -/
def named (p : Fin 16 → EReal) (a b e : Fin 16) : EReal := if e = a ∨ e = b then p e else 0

/-- the weights: the same over its own sum. -/
def weight (p : Fin 16 → EReal) (a b e : Fin 16) : EReal := Ideal.div (named p a b e) (∑ e', named p a b e')

/-- A nonnegative real weight goes through a contraction. -/
theorem weigh (x W : Fin 128 → EReal) {c : ℝ} (hc : 0 ≤ c) : ∑ k, (x k * (c : EReal)) * W k = (c : EReal) * ∑ k, x k * W k := by
  have h : ∀ S : Finset (Fin 128), ∑ k ∈ S, (x k * (c : EReal)) * W k = (c : EReal) * ∑ k ∈ S, x k * W k := fun S => by
    induction S using Finset.induction_on with
    | empty => simp
    | insert k S hk ih =>
      rw [Finset.sum_insert hk, Finset.sum_insert hk, ih,
        EReal.left_distrib_of_nonneg_of_ne_top (EReal.coe_nonneg.mpr hc) (EReal.coe_ne_top c), mul_comm (x k), mul_assoc]
  exact h _

/-- A token's result under the two named experts: each one's product, by its softmax over the sum of the two. -/
def blend (x : Fin 128 → EReal) (r : Fin 128 → Fin 16 → EReal) (W : Fin 16 → Fin 128 → EReal) (a b : Fin 16) : EReal :=
  Ideal.div (soft (score x r) a) (soft (score x r) a + soft (score x r) b) * (∑ k, x k * W a k)
    + Ideal.div (soft (score x r) b) (soft (score x r) a + soft (score x r) b) * (∑ k, x k * W b k)

/-- The sum over all the experts, weighed, is the weighted sum of the two named ones. -/
theorem combine (p : Fin 16 → EReal) (hp : ∀ e, ∃ r : ℝ, 0 < r ∧ p e = (r : EReal)) (x : Fin 128 → EReal) (W : Fin 16 → Fin 128 → EReal) (a b : Fin 16) :
    ∑ e, ∑ k, (x k * weight p a b e) * W e k
      = Ideal.div (p a) (p a + p b) * (∑ k, x k * W a k) + Ideal.div (p b) (p a + p b) * (∑ k, x k * W b k) := by
  choose f hf0 hf using hp
  have hab : p a + p b = ((f a + f b : ℝ) : EReal) := by rw [hf, hf, EReal.coe_add]
  have hpos : 0 < f a + f b := add_pos (hf0 a) (hf0 b)
  by_cases h : a = b
  · subst h
    have hs : ∑ e', named p a a e' = (f a : EReal) := by
      rw [Finset.sum_eq_single a (fun e _ he => by unfold named; rw [if_neg (by simpa using he)]) (fun h => absurd (Finset.mem_univ _) h)]
      unfold named; rw [if_pos (Or.inl rfl), hf]
    have hw (e : Fin 16) : weight p a a e = ((if e = a then 1 else 0 : ℝ) : EReal) := by
      unfold weight named; unfold named at hs; rw [hs]
      by_cases he : e = a
      · subst he; rw [if_pos (Or.inl rfl), if_pos rfl, hf, div_reals _ (hf0 _).ne', div_self (hf0 _).ne']
      · rw [if_neg (by simpa using he), if_neg he, ← EReal.coe_zero, div_reals _ (hf0 _).ne', zero_div]
    rw [hab, hf, div_reals _ hpos.ne',
      ← EReal.right_distrib_of_nonneg (EReal.coe_nonneg.mpr (div_pos (hf0 a) hpos).le) (EReal.coe_nonneg.mpr (div_pos (hf0 a) hpos).le),
      ← EReal.coe_add, ← add_div, div_self hpos.ne', Finset.sum_eq_single a (fun e _ he => ?_) (fun h => absurd (Finset.mem_univ _) h)]
    · rw [Finset.sum_congr rfl fun k _ => by rw [hw, if_pos rfl], weigh x (W a) zero_le_one]
    · rw [Finset.sum_congr rfl fun k _ => by rw [hw, if_neg he], weigh x (W e) le_rfl, EReal.coe_zero, zero_mul]
  · have hs : ∑ e', named p a b e' = ((f a + f b : ℝ) : EReal) := by
      rw [Finset.sum_eq_add a b h (fun e _ he => by unfold named; rw [if_neg (by simpa using he)])
        (fun h => absurd (Finset.mem_univ _) h) (fun h => absurd (Finset.mem_univ _) h)]
      unfold named; rw [if_pos (Or.inl rfl), if_pos (Or.inr rfl), hab]
    have hw (e : Fin 16) : weight p a b e = ((if e = a ∨ e = b then f e / (f a + f b) else 0 : ℝ) : EReal) := by
      unfold weight named; unfold named at hs; rw [hs]
      by_cases he : e = a ∨ e = b
      · rw [if_pos he, if_pos he, hf, div_reals _ hpos.ne']
      · rw [if_neg he, if_neg he, ← EReal.coe_zero, div_reals _ hpos.ne', zero_div]
    have ht (e : Fin 16) : ∑ k, (x k * weight p a b e) * W e k = ((if e = a ∨ e = b then f e / (f a + f b) else 0 : ℝ) : EReal) * ∑ k, x k * W e k := by
      rw [Finset.sum_congr rfl fun k _ => by rw [hw], weigh x (W e)]
      split
      · exact (div_pos (hf0 e) hpos).le
      · exact le_rfl
    rw [Finset.sum_congr rfl fun e _ => ht e, hab, hf, hf, div_reals _ hpos.ne', div_reals _ hpos.ne',
      Finset.sum_eq_add a b h (fun e _ he => by rw [if_neg (by simpa using he), EReal.coe_zero, zero_mul])
        (fun h => absurd (Finset.mem_univ _) h) (fun h => absurd (Finset.mem_univ _) h), if_pos (Or.inl rfl), if_pos (Or.inr rfl)]

end Cert.Moe
end
-- ==== Proof.Experts.lean ====
/-
# The experts' parts

What a device stores, read at one entry: the sum over the sixteen experts of the tokens, each times its weight at the
expert, contracted with the expert's matrix.
-/
module

public import proofs.«01_k».proof.Proof.Body
public import proofs.«01_k».proof.Proof.Token

@[expose] public section

set_option maxRecDepth 16384

noncomputable section

namespace Cert.Moe

open Cert.KernelIdeal Cert.KernelIdeal.Gen
open Idealize.ShloMosaic
open Idealize.ShloMosaic.TcCoe
open Idealize.SL.Sem

/-- One expert's part: the tokens, each times its weight at the expert, times the expert's matrix. -/
def step {F : FTy → Type} [FloatOps F] (x : FVec F S256x128 .bf16) (w : FVec F S256x16 .f32) (off : Fin 2 → Nat) (h : S256x16.Slices off S256x1)
    (W : Vec F S1x128x256 .bf16) : FVec F S256x256 .f32 :=
  matmul dot_S256x128_S128x256_S256x256_1_0_0_1_n_n none
    (truncf .bf16 (mulf (extf .f32 x bitsLt_bf16_f32) (broadcastTo S256x128 (extractStridedSlice S256x1 off w h) broadcasts_S256x1_S256x128)) bitsLt_bf16_f32)
    (shapeCast S128x256 W shapeCasts_S1x128x256_S128x256) (constant S256x256 .f32 0x00000000#32)

/-- It, at one entry. -/
theorem step_apply (x : FVec Ideal S256x128 .bf16) (w : FVec Ideal S256x16 .f32) (e : Fin 16) (off : Fin 2 → Nat) (ho : off = ![0, e.val])
    (h : S256x16.Slices off S256x1) (W : Vec Ideal S1x128x256 .bf16) (t : Fin 256) (j : Fin 256) :
    step x w off h W (ix2 t j) = ∑ k : Fin 128, (x (ix2 t k) * w (ix2 t e)) * W (ix3 0 k j) := by
  subst ho
  pointwise [step]

/-- The column of the weights that belongs to expert `e` is one of theirs. -/
theorem slices_at (e : Fin 16) : S256x16.Slices ![0, e.val] S256x1 := by revert e; decide
/-- The matrix of expert `e` is one of the gathered. -/
theorem inb_at (e : Fin 16) (a : Fin 3) : (![e.val, 0, 0] : Fin 3 → Nat) a + S1x128x256.size a ≤ S16x128x256.size a := by revert a e; decide

/-- Expert `e`'s part on device `c`. -/
def part {F : FTy → Type} [FloatOps F] (m : (ℓ : Loc nD τ sig) → Buf (Elt F) ℓ) (c : Dev nD) (e : Fin 16) : FVec F S256x256 .f32 :=
  step (toks m c) (gates m c) ![0, e.val] (slices_at e) (rowAt m ![e.val, 0, 0] (inb_at e))

/-- What a device stores is the sum of the sixteen parts, in order, from zero. -/
theorem outAt_parts {F : FTy → Type} [FloatOps F] (m : (ℓ : Loc nD τ sig) → Buf (Elt F) ℓ) (c : Dev nD) :
    outAt m c = addf (addf (addf (addf (addf (addf (addf (addf (addf (addf (addf (addf (addf (addf (addf (addf k0_pay5 (part m c 0)) (part m c 1)) (part m c 2)) (part m c 3)) (part m c 4)) (part m c 5)) (part m c 6)) (part m c 7)) (part m c 8)) (part m c 9)) (part m c 10)) (part m c 11)) (part m c 12)) (part m c 13)) (part m c 14)) (part m c 15) := by
  rfl

/-- The gathered matrices, at one entry. -/
theorem rowAt_apply (m : (ℓ : Loc nD τ sig) → Buf (Elt Ideal) ℓ) (e : Fin 16) (k : Fin 128) (j : Fin 256) :
    rowAt m ![e.val, 0, 0] (inb_at e) (ix3 0 k j) = gath m (ix3 e k j) := by
  refine congrArg (gath m) (funext fun a => Fin.ext ?_)
  match a with
  | ⟨0, _⟩ => show e.val + 1 * 0 = e.val; omega
  | ⟨1, _⟩ => show 0 + 1 * k.val = k.val; omega
  | ⟨2, _⟩ => show 0 + 1 * j.val = j.val; omega

/-- What a device stores, at one entry. -/
theorem outAt_apply (m : (ℓ : Loc nD τ sig) → Buf (Elt Ideal) ℓ) (c : Dev nD) (t j : Fin 256) :
    outAt m c (ix2 t j) = ∑ e : Fin 16, ∑ k : Fin 128, (toks m c (ix2 t k) * gates m c (ix2 t e)) * gath m (ix3 e k j) := by
  have h (e : Fin 16) : part m c e (ix2 t j) = ∑ k : Fin 128, (toks m c (ix2 t k) * gates m c (ix2 t e)) * gath m (ix3 e k j) := by
    unfold part
    rw [step_apply _ _ e _ rfl]
    exact Finset.sum_congr rfl fun k _ => by rw [rowAt_apply]
  rw [outAt_parts, ← Finset.sum_congr rfl fun e _ => h e]
  pointwise [k0_pay5]
  simp only [Fin.sum_univ_castSucc, Fin.sum_univ_zero, zero_add]
  rfl

end Cert.Moe
end
-- ==== Proof.Gates.lean ====
/-
# A device's result, at one entry

The payloads of the body read at an entry, in terms of the four arguments: the weights are the softmax at the two experts the
token names, over their sum, and the gathered matrices are the devices' own, so what a device stores is the two experts'
products weighed, as the reference has it.
-/
module

public import proofs.«01_k».proof.Proof.Experts

@[expose] public section

set_option maxRecDepth 16384

noncomputable section

namespace Cert.Moe

open Cert.KernelIdeal Cert.KernelIdeal.Gen
open Idealize.ShloMosaic
open Idealize.ShloMosaic.TcCoe
open Idealize.SL.Sem

variable (m : (ℓ : Loc nD τ sig) → Buf (Elt Ideal) ℓ)

/-- The matrices a device stages are its own; -/
theorem ein_apply (c : Dev nD) (e : Fin 2) (k : Fin 128) (j : Fin 256) :
    ein m c (ix3 e k j) = m ((c.tc : Thread nD τ).loc main_arg3) (ix3 e k j) := by
  refine congrArg (m ((c.tc : Thread nD τ).loc main_arg3)) (funext fun a => Fin.ext ?_)
  match a with
  | ⟨0, _⟩ => show 0 * 2 + 1 * e.val = e.val; omega
  | ⟨1, _⟩ => show 0 * 128 + 1 * k.val = k.val; omega
  | ⟨2, _⟩ => show 0 * 256 + 1 * j.val = j.val; omega
/-- the tokens it loads are its own; -/
theorem toks_apply (c : Dev nD) (t : Fin 256) (k : Fin 128) :
    toks m c (ix2 t k) = m ((c.tc : Thread nD τ).loc main_arg0) (ix2 t k) := by
  have h : xRead m c (ix2 t k) = m ((c.tc : Thread nD τ).loc main_arg0) (ix2 t k) := by
    refine congrArg (m ((c.tc : Thread nD τ).loc main_arg0)) (funext fun a => Fin.ext ?_)
    match a with
    | ⟨0, _⟩ => show 0 * 256 + 1 * (0 + 1 * t.val) = t.val; omega
    | ⟨1, _⟩ => show 0 * 128 + 1 * (0 + 1 * k.val) = k.val; omega
  rw [← h]
  pointwise [toks, k0_pay2]

/-- the router it loads is its own; -/
theorem router_apply (c : Dev nD) (k : Fin 128) (e : Fin 16) :
    rRead m c (ix2 k e) = m ((c.tc : Thread nD τ).loc main_arg1) (ix2 k e) := by
  refine congrArg (m ((c.tc : Thread nD τ).loc main_arg1)) (funext fun a => Fin.ext ?_)
  match a with
  | ⟨0, _⟩ => show 0 * 128 + 1 * (0 + 1 * k.val) = k.val; omega
  | ⟨1, _⟩ => show 0 * 16 + 1 * (0 + 1 * e.val) = e.val; omega

/-- the column of chosen experts it loads is its own. -/
theorem icolAt_apply (c : Dev nD) (b : Fin 2) (inb : ∀ a, (![0, b.val] : Fin 2 → Nat) a + S256x1.size a ≤ S256x2.size a) (t : Fin 256) :
    icolAt m c ![0, b.val] inb (ix2 t 0) = m ((c.tc : Thread nD τ).loc main_arg2) (ix2 t b) := by
  refine congrArg (m ((c.tc : Thread nD τ).loc main_arg2)) (funext fun a => Fin.ext ?_)
  match a with
  | ⟨0, _⟩ => show 0 * 256 + 1 * (0 + 1 * t.val) = t.val; omega
  | ⟨1, _⟩ => show 0 * 2 + 1 * (b.val + 1 * 0) = b.val; omega

/-- The device that holds expert `e`. -/
def owner (e : Fin 16) : Dev nD := ⟨e.val / 2, by show _ < 8; omega⟩

/-- Expert `e`'s matrix as gathered is the one device `e / 2` has at `e % 2`. -/
theorem gath_apply (e : Fin 16) (k : Fin 128) (j : Fin 256) :
    gath m (ix3 e k j) = m (((owner e).tc : Thread nD τ).loc main_arg3) (ix3 ⟨e.val % 2, Nat.mod_lt _ (by decide)⟩ k j) := by
  rw [← ein_apply m]
  refine congrArg (ein m (owner e)) (funext fun a => ?_)
  match a with
  | ⟨0, _⟩ => rfl
  | ⟨1, _⟩ => rfl
  | ⟨2, _⟩ => rfl

/-- Words of numbers below sixteen are equal where the numbers are. -/
theorem word_eq (a e : Fin 16) : (BitVec.ofNat 32 e.val = BitVec.ofNat 32 a.val) ↔ e = a := by
  constructor
  · intro h
    have h := congrArg BitVec.toNat h
    rw [BitVec.toNat_ofNat, BitVec.toNat_ofNat] at h
    exact Fin.ext (by omega)
  · rintro rfl; rfl

/-- The mask of two named experts. -/
theorem mask_select (a b e : Fin 16) (x : EReal) :
    Scalar.select (IntOp.ori (IntOp.cmpi .eq (BitVec.ofNat 32 e.val) (BitVec.ofNat 32 a.val)) (IntOp.cmpi .eq (BitVec.ofNat 32 e.val) (BitVec.ofNat 32 b.val))) x 0
      = if e = a ∨ e = b then x else 0 := by
  have h (a : Fin 16) : IntOp.cmpi .eq (BitVec.ofNat 32 e.val) (BitVec.ofNat 32 a.val) = BitVec.ofBool (decide (e = a)) := by
    by_cases he : e = a
    · subst he; simp [IntOp.cmpi]
    · have hw := mt (word_eq a e).mp he
      show BitVec.ofBool (BitVec.ofNat 32 e.val == BitVec.ofNat 32 a.val) = _
      rw [beq_eq_false_iff_ne.mpr hw, decide_eq_false he]
  rw [h, h]
  by_cases h1 : e = a
  · rw [if_pos (Or.inl h1), decide_eq_true h1]
    cases decide (e = b) <;> rfl
  · by_cases h2 : e = b
    · rw [if_pos (Or.inr h2), decide_eq_false h1, decide_eq_true h2]; rfl
    · rw [if_neg (by simp [h1, h2]), decide_eq_false h1, decide_eq_false h2]; rfl

/-- The weights a device computes, at a token that names the experts `a` and `b`. -/
theorem gates_apply (c : Dev nD) (t : Fin 256) (a b e : Fin 16)
    (ha : m ((c.tc : Thread nD τ).loc main_arg2) (ix2 t 0) = BitVec.ofNat 32 a.val)
    (hb : m ((c.tc : Thread nD τ).loc main_arg2) (ix2 t 1) = BitVec.ofNat 32 b.val) :
    gates m c (ix2 t e) = weight (soft (score (fun k => m ((c.tc : Thread nD τ).loc main_arg0) (ix2 t k))
      (fun k e => m ((c.tc : Thread nD τ).loc main_arg1) (ix2 k e)))) a b e := by
  have h0 : icolAt m c ![0, 0] inb_S256x2_S256x1_0_0 (ix2 t 0) = BitVec.ofNat 32 a.val := (icolAt_apply m c 0 inb_S256x2_S256x1_0_0 t).trans ha
  have h1 : icolAt m c ![0, 1] inb_S256x2_S256x1_0_1 (ix2 t 0) = BitVec.ofNat 32 b.val := (icolAt_apply m c 1 inb_S256x2_S256x1_0_1 t).trans hb
  have hx (k : Fin 128) : xRead m c (ix2 t k) = m ((c.tc : Thread nD τ).loc main_arg0) (ix2 t k) := by
    rw [← toks_apply m]; pointwise [toks, k0_pay2]
  unfold gates
  pointwise [k0_pay4, k0_pay3, k0_pay2]
  simp only [h0, h1, hx, router_apply m, mask_select]
  rfl

/-- What a device stores, at a token that names the experts `a` and `b`. -/
theorem outAt_value (c : Dev nD) (t j : Fin 256) (a b : Fin 16)
    (hx : ∀ k, IsReal (m ((c.tc : Thread nD τ).loc main_arg0) (ix2 t k))) (hr : ∀ k e, IsReal (m ((c.tc : Thread nD τ).loc main_arg1) (ix2 k e)))
    (ha : m ((c.tc : Thread nD τ).loc main_arg2) (ix2 t 0) = BitVec.ofNat 32 a.val)
    (hb : m ((c.tc : Thread nD τ).loc main_arg2) (ix2 t 1) = BitVec.ofNat 32 b.val) :
    outAt m c (ix2 t j) = blend (fun k => m ((c.tc : Thread nD τ).loc main_arg0) (ix2 t k)) (fun k e => m ((c.tc : Thread nD τ).loc main_arg1) (ix2 k e))
      (fun e k => gath m (ix3 e k j)) a b := by
  rw [outAt_apply, Finset.sum_congr rfl fun e _ => Finset.sum_congr rfl fun k _ => by rw [toks_apply, gates_apply m c t a b e ha hb]]
  exact combine _ (soft_real (score_real hx hr)) _ (fun e k => gath m (ix3 e k j)) a b

end Cert.Moe
end
-- ==== Proof.RefValue.lean ====
/-
# The reference, at one entry

The reference's result at one token and one column: each of the token's two named experts' product, weighed by its softmax
over the sum of the two softmaxes.
-/
module

public import proofs.«01_k».proof.Proof.Gen.ReferenceIdeal.Run
public import proofs.«01_k».proof.Proof.Token
public import Idealize.ShloMosaic.Lib.Tactic.CleanTypes

@[expose] public section

set_option maxRecDepth 16384

noncomputable section

namespace Cert.Moe

open Cert.ReferenceIdeal Cert.ReferenceIdeal.Gen
open Idealize.ShloMosaic
open Idealize.ShloMosaic.TcCoe
open Idealize.SL.Sem

/-- The dimensions of the gather of softmaxes; -/
abbrev dP : GatherDims S2048x16 S2048x2 S2048 := gather_S2048x16_S2048x2_S2048_n_01_n_n_01_1_11
/-- of the gather of matrices. -/
abbrev dW : GatherDims S16x128x256 S2048x1 S2048x128x256 := gather_S16x128x256_S2048x1_S2048x128x256_12_0_n_n_0_1_1128256

/-- A number below `2 ^ 31`, as a word, read signed. -/
theorem word_toNat {n : Nat} (h : n < 2 ^ 31) : (BitVec.ofNat 32 n).toInt.toNat = n := by
  rw [BitVec.toInt_eq_toNat_of_lt (by rw [BitVec.toNat_ofNat]; omega), BitVec.toNat_ofNat]; omega

/-- The gather of one softmax a token: in bounds, the entry named. -/
theorem pick_apply {α : Type} (P : S2048x16.Idx → α) (I : IVec S2048x2 32) (t : Fin 2048) (e : Fin 16)
    (h0 : I (ix2 t 0) = BitVec.ofNat 32 t.val) (h1 : I (ix2 t 1) = BitVec.ofNat 32 e.val) :
    Host.gather dP P I (ix1 t) = P (ix2 t e) := by
  have hm (a : Fin 2) : a ∈ (dP).startIndexMap := by
    show a ∈ ([0, 1] : List (Fin 2)); revert a; decide
  have hv (a : Fin 2) (b : Fin 2) (n : Nat) (hn : n < 2 ^ 31) (hb : (dP).startIndexMap.idxOf a = b.val) (hi : I (ix2 t b) = BitVec.ofNat 32 n) :
      (dP.operandIdx (ix1 t) I a).val = min n (S2048x16.size a - (dP).sliceSizes a) := by
    show dP.start (ix1 t) I a + dP.batchCoord (ix1 t) a + dP.offCoord (ix1 t) a = _
    rw [GatherDims.batchCoord_eq_zero _ _ _ List.not_mem_nil, GatherDims.offCoord_eq_zero _ _ _ (fun h => ((GatherDims.mem_sKept _ _).mp h).1 (hm a))]
    simp only [Nat.add_zero]
    unfold GatherDims.start
    rw [dif_pos (hm a)]
    have hs : dP.siIdx (ix1 t) ⟨(dP).startIndexMap.idxOf a, List.idxOf_lt_length_iff.2 (hm a)⟩ = ix2 t b := by
      funext x; refine Fin.ext ?_
      match x with
      | ⟨0, _⟩ => rfl
      | ⟨1, _⟩ => exact hb
    rw [hs, hi, word_toNat hn]
  unfold Host.gather
  refine congrArg P (funext fun a => Fin.ext ?_)
  match a with
  | ⟨0, _⟩ =>
    refine (hv 0 0 t.val (by omega) rfl h0).trans ?_
    show min t.val (2048 - 1) = t.val
    omega
  | ⟨1, _⟩ =>
    refine (hv 1 1 e.val (by omega) rfl h1).trans ?_
    show min e.val (16 - 1) = e.val
    omega

/-- The gather of one matrix a token: in bounds, the matrix named. -/
theorem take_apply {α : Type} (W : S16x128x256.Idx → α) (I : IVec S2048x1 32) (t : Fin 2048) (k : Fin 128) (j : Fin 256) (e : Fin 16)
    (h0 : I (ix2 t 0) = BitVec.ofNat 32 e.val) :
    Host.gather dW W I (ix3 t k j) = W (ix3 e k j) := by
  have hk : (dW).sKept = [1, 2] := rfl
  unfold Host.gather
  refine congrArg W (funext fun a => Fin.ext ?_)
  show dW.start (ix3 t k j) I a + dW.batchCoord (ix3 t k j) a + dW.offCoord (ix3 t k j) a = _
  rw [GatherDims.batchCoord_eq_zero _ _ _ List.not_mem_nil]
  match a with
  | ⟨0, _⟩ =>
    have hm : (0 : Fin 3) ∈ (dW).startIndexMap := List.mem_singleton.mpr rfl
    show dW.start (ix3 t k j) I 0 + 0 + dW.offCoord (ix3 t k j) 0 = e.val
    rw [GatherDims.offCoord_eq_zero _ _ _ (fun h => ((GatherDims.mem_sKept _ _).mp h).1 (List.mem_singleton.mpr rfl))]
    simp only [Nat.add_zero]
    unfold GatherDims.start
    rw [dif_pos hm]
    have hs : dW.siIdx (ix3 t k j) ⟨(dW).startIndexMap.idxOf 0, List.idxOf_lt_length_iff.2 hm⟩ = ix2 t 0 := by
      funext x; refine Fin.ext ?_
      match x with
      | ⟨0, _⟩ => rfl
      | ⟨1, _⟩ => rfl
    rw [hs, h0, word_toNat (by omega)]
    show min e.val (16 - 1) = e.val
    omega
  | ⟨1, _⟩ =>
    show dW.start (ix3 t k j) I 1 + 0 + dW.offCoord (ix3 t k j) 1 = k.val
    unfold GatherDims.start GatherDims.offCoord
    rw [dif_neg (by show (1 : Fin 3) ∉ ([0] : List (Fin 3)); decide), dif_pos (by rw [hk]; decide)]
    simp only [Nat.zero_add]
    rfl
  | ⟨2, _⟩ =>
    show dW.start (ix3 t k j) I 2 + 0 + dW.offCoord (ix3 t k j) 2 = j.val
    unfold GatherDims.start GatherDims.offCoord
    rw [dif_neg (by show (2 : Fin 3) ∉ ([0] : List (Fin 3)); decide), dif_pos (by rw [hk]; decide)]
    simp only [Nat.zero_add]
    rfl

/-- The reference's result at a token that names the experts `a` and `b`. -/
theorem ref_value (m : (ℓ : Loc nD τ sig) → Buf (Elt Ideal) ℓ) (c : Dev nD) (t : Fin 2048) (j : Fin 256) (a b : Fin 16)
    (ha : m ((c.tc : Thread nD τ).loc main_arg2) (ix2 t 0) = BitVec.ofNat 32 a.val)
    (hb : m ((c.tc : Thread nD τ).loc main_arg2) (ix2 t 1) = BitVec.ofNat 32 b.val) :
    Value.res_main_v41 m c (ix2 t j) = blend (fun k => m ((c.tc : Thread nD τ).loc main_arg0) (ix2 t k)) (fun k e => m ((c.tc : Thread nD τ).loc main_arg1) (ix2 k e))
      (fun e k => m ((c.tc : Thread nD τ).loc main_arg3) (ix3 e k j)) a b := by
  unfold Value.res_main_v41
  generalize m ((c.tc : Thread nD τ).loc main_arg0) = X at *
  generalize m ((c.tc : Thread nD τ).loc main_arg1) = R at *
  generalize m ((c.tc : Thread nD τ).loc main_arg2) = I at *
  generalize m ((c.tc : Thread nD τ).loc main_arg3) = W at *
  clean_types
  pointwise
  rw [pick_apply _ _ t a (by pointwise) (by pointwise; exact ha), pick_apply _ _ t b (by pointwise) (by pointwise; exact hb)]
  pointwise [blend, soft, score]
  exact Ideal.add_congr
    (Ideal.mul_congr rfl (Finset.sum_congr rfl fun k _ => Ideal.mul_congr rfl ((take_apply _ _ t k j a (by pointwise; exact ha)).trans (by pointwise))))
    (Ideal.mul_congr rfl (Finset.sum_congr rfl fun k _ => Ideal.mul_congr rfl ((take_apply _ _ t k j b (by pointwise; exact hb)).trans (by pointwise))))

end Cert.Moe
end
-- ==== Proof.Value.lean ====
/-
# The value

Every fair execution of the kernel leaves on each device its block of the reference's result, on tokens and router that are
finite and on indices that name experts.
-/
module

public import proofs.«01_k».proof.Proof.Gates
public import proofs.«01_k».proof.Proof.RefValue
public import proofs.«01_k».proof.Proof.Frames
public import Idealize.ShloMosaic.Lib.Pipeline.ValueKit

@[expose] public section

set_option maxRecDepth 16384

noncomputable section

namespace Cert.Moe

open Cert.KernelIdeal Cert.KernelIdeal.Gen
open Idealize.ShloMosaic
open Idealize.ShloMosaic.TcCoe
open Idealize.SL.Sem

/-! ## The result array -/

/-- The result array ends holding what the body stored. -/
theorem final_out {F : FTy → Type} [FloatOps F] (m : (ℓ : Loc nD τ sig) → Buf (Elt F) ℓ) (c : Dev nD) : finalA m c 4 = outAt m c := by
  refine (dats m 0 c).arrAt_eq_of_covers 4 (outAt m c) (by decide +kernel) fun t hf y => ?_
  obtain ⟨n, hn⟩ := t
  have one : cfg0.grid.N = 1 := by decide +kernel
  have zero : n = 0 := by omega
  subst zero
  refine congrArg (outAt m c) (funext fun a => Fin.ext ?_)
  match a with
  | ⟨0, _⟩ => show (y 0).val = 0 * 256 + 1 * (y 0).val; omega
  | ⟨1, _⟩ => show (y 1).val = 0 * 256 + 1 * (y 1).val; omega

/-! ## The precondition

It is stated in the operations of the program, so each part is first read as a fact about one element. -/

/-- The pattern the precondition compares with is infinity. -/
theorem bound_eq : Ideal.ofBits FTy.bf16 32640#16 = (⊤ : EReal) := by
  simp [Ideal.ofBits, Ideal.ieee]

/-- A value whose magnitude stays below infinity is a real number. -/
theorem real_of_test (x : EReal) (h : BitVec.ofBool (decide (FloatOps.absf (F := Ideal) (φ := .bf16) x < Ideal.ofBits FTy.bf16 32640#16)) = 1#1) : IsReal x := by
  rw [bound_eq] at h
  have lt : max x (-x) < ⊤ := by
    by_contra no
    have off : decide (FloatOps.absf (F := Ideal) (φ := .bf16) x < (⊤ : EReal)) = false := decide_eq_false no
    rw [off] at h
    exact absurd h (by decide)
  constructor
  · rintro rfl
    exact absurd lt (by simp)
  · rintro rfl
    exact absurd lt (by simp)

/-- A word between nought and sixteen names an expert. -/
theorem expert_of_test (w : BitVec 32) (h : IntOp.andi (IntOp.cmpi CmpIPredicate.sge w 0#32) (IntOp.cmpi CmpIPredicate.slt w 16#32) = 1#1) :
    ∃ a : Fin 16, w = BitVec.ofNat 32 a.val := by
  have both : (0#32).sle w = true ∧ w.slt 16#32 = true := by
    revert h
    show BitVec.ofBool ((0#32).sle w) &&& BitVec.ofBool (w.slt 16#32) = 1#1 → _
    cases (0#32).sle w <;> cases w.slt 16#32 <;> decide
  have low := BitVec.sle_iff_toInt_le.mp both.1
  have high := BitVec.slt_iff_toInt_lt.mp both.2
  have size := w.isLt
  have least : (0#32).toInt = 0 := by decide
  have bound : (16#32).toInt = 16 := by decide
  have small : w.toNat < 16 := by
    rw [least, BitVec.toInt_eq_toNat_cond] at low
    rw [bound, BitVec.toInt_eq_toNat_cond] at high
    split at low <;> omega
  exact ⟨⟨w.toNat, small⟩, (BitVec.eq_of_toNat_eq (by rw [BitVec.toNat_ofNat, Nat.mod_eq_of_lt size]))⟩

variable [Cert.Pre_routed_KernelIdeal.Facts]

/-- The tokens the precondition admits are real numbers. -/
theorem pre_tokens (x : FVec Ideal S256x128 .bf16) (r : FVec Ideal S128x16 .bf16) (i : IVec S256x2 32) (w : FVec Ideal S2x128x256 .bf16)
    (h : (Cert.Pre_routed_KernelIdeal.fn x r i w).1 = fun _ => 1#1) (t : Fin 256) (k : Fin 128) : IsReal (x (ix2 t k)) := by
  have h := congrFun h (ix2 t k)
  pointwise [Cert.Pre_routed_KernelIdeal.fn] at h
  exact real_of_test _ h

/-- The router the precondition admits holds real numbers. -/
theorem pre_router (x : FVec Ideal S256x128 .bf16) (r : FVec Ideal S128x16 .bf16) (i : IVec S256x2 32) (w : FVec Ideal S2x128x256 .bf16)
    (h : (Cert.Pre_routed_KernelIdeal.fn x r i w).2.1 = fun _ => 1#1) (k : Fin 128) (e : Fin 16) : IsReal (r (ix2 k e)) := by
  have h := congrFun h (ix2 k e)
  pointwise [Cert.Pre_routed_KernelIdeal.fn] at h
  exact real_of_test _ h

/-- The indices the precondition admits name experts. -/
theorem pre_index (x : FVec Ideal S256x128 .bf16) (r : FVec Ideal S128x16 .bf16) (i : IVec S256x2 32) (w : FVec Ideal S2x128x256 .bf16)
    (h : (Cert.Pre_routed_KernelIdeal.fn x r i w).2.2 = fun _ => 1#1) (t : Fin 256) (s : Fin 2) :
    ∃ a : Fin 16, i (ix2 t s) = BitVec.ofNat 32 a.val := by
  have h := congrFun h (ix2 t s)
  pointwise [Cert.Pre_routed_KernelIdeal.fn] at h
  exact expert_of_test _ h

/-! ## The blocks of the whole arrays -/

/-- Where row `t` of device `c`'s block stands among all the rows. -/
abbrev rowOf (c : Dev nD) (t : Fin 256) : Fin 2048 := ⟨c.val * 256 + t.val, by have h : c.val < 8 := c.isLt; have := t.isLt; omega⟩

/-- A row of a device's block, for an array whose rows are dealt out. -/
theorem block_rows {α : Type} {n : ℕ} (h : Layout.Tiles ⟨2, ![256, n]⟩ ⟨2, ![2048, n]⟩ 0 8) (v : (⟨2, ![2048, n]⟩ : Shape).Idx → α) (c : Fin 8) (t : Fin 256) (k : Fin n) :
    Layout.block ⟨2, ![256, n]⟩ ⟨2, ![2048, n]⟩ 0 8 c v h (ix2 t k) = v (ix2 (rowOf c t) k) :=
  congrArg v (funext fun a => Fin.ext (match a with | ⟨0, _⟩ => rfl | ⟨1, _⟩ => rfl))

/-- Every index of a block is one of its rows at a column. -/
theorem ix2_eta {a b : ℕ} (i : (⟨2, ![a, b]⟩ : Shape).Idx) : ∃ (t : Fin a) (j : Fin b), i = ix2 t j :=
  ⟨i 0, i 1, funext fun x => match x with | ⟨0, _⟩ => rfl | ⟨1, _⟩ => rfl⟩

/-- The matrices of all the experts, gathered from the blocks of one array, are that array. -/
theorem gath_block (m : (ℓ : Loc nD τ sig) → Buf (Elt Ideal) ℓ) (v : (⟨3, ![16, 128, 256]⟩ : Shape).Idx → EReal)
    (h : ∀ c : Dev nD, m ((c.tc : Thread nD τ).loc main_arg3) = Layout.block ⟨3, ![2, 128, 256]⟩ ⟨3, ![16, 128, 256]⟩ 0 8 c v)
    (e : Fin 16) (k : Fin 128) (j : Fin 256) : gath m (ix3 e k j) = v (ix3 e k j) := by
  rw [gath_apply m, h (owner e)]
  refine congrArg v (funext fun a => Fin.ext ?_)
  match a with
  | ⟨0, _⟩ => show e.val / 2 * 2 + e.val % 2 = e.val; omega
  | ⟨1, _⟩ => rfl
  | ⟨2, _⟩ => rfl

/-! ## The claim -/

/-- **The value.** On memories the precondition admits, cut from the reference's arrays, every device's result is its block
of the reference's. -/
theorem out_block (m : (ℓ : Loc nD τ sig) → Buf (Elt Ideal) ℓ)
    (m' : (ℓ : Loc Cert.ReferenceIdeal.nD Cert.ReferenceIdeal.τ Cert.ReferenceIdeal.sig) → Buf (Elt Ideal) ℓ)
    (pre : Cert.Pre_KernelIdeal_routed_KernelIdeal m)
    (agree : ∀ c : Dev nD,
      m ((c.tc : Thread nD τ).loc main_arg0) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)
      ∧ m ((c.tc : Thread nD τ).loc main_arg2) = Layout.block ⟨2, ![256, 2]⟩ ⟨2, ![2048, 2]⟩ 0 8 c (m' (((0 : Dev Cert.ReferenceIdeal.nD).tc : Thread Cert.ReferenceIdeal.nD Cert.ReferenceIdeal.τ).loc Cert.ReferenceIdeal.main_arg2))
      ∧ m ((c.tc : Thread nD τ).loc main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3)))
    (c : Dev nD) :
    outAt m c = Layout.block ⟨2, ![256, 256]⟩ ⟨2, ![2048, 256]⟩ 0 8 c (Cert.ReferenceIdeal.Value.res_main_v41 m' 0) := by
  funext i
  obtain ⟨t, j, rfl⟩ := ix2_eta i
  obtain ⟨a, ha⟩ := pre_index _ _ _ _ (pre c).2.2 t 0
  obtain ⟨b, hb⟩ := pre_index _ _ _ _ (pre c).2.2 t 1
  have word (s : Fin 2) := (congrFun (agree c).2.2.1 (ix2 t s)).trans (block_rows _ _ c t s)
  have token (k : Fin 128) := (congrFun (agree c).1 (ix2 t k)).trans (block_rows _ _ c t k)
  have expert (e : Fin 16) (k : Fin 128) := gath_block m _ (fun d => (agree d).2.2.2) e k j
  refine (outAt_value m c t j a b (pre_tokens _ _ _ _ (pre c).1 t) (pre_router _ _ _ _ (pre c).2.1) ha hb).trans ?_
  refine Eq.trans ?_ (block_rows _ _ c t j).symm
  refine Eq.trans ?_ (ref_value m' 0 (rowOf c t) j a b ((word 0).symm.trans ha) ((word 1).symm.trans hb)).symm
  rw [funext token, funext fun e => funext (expert e), (agree c).2.1]

/-- **Kernel and reference.** Both end; the kernel's results are the blocks of the reference's; and the arguments stay. -/
theorem algebraic : Cert.algebraic_KernelIdeal_ReferenceIdeal_pre_routed_KernelIdeal := by
  intro m g m' g' pre agree
  refine ⟨Cert.ReferenceIdeal.Value.res_main_v41 m' 0, ?_, ?_⟩
  · exact (θ_run Cert.KernelIdeal.defs _ _).mono
      (fun r h c => ⟨((h.1 c 4).trans (final_out m c)).trans (out_block m m' pre agree c), kept_of m h.1 c⟩) (run_main (F := Ideal) m g)
  · exact (θ_run Cert.ReferenceIdeal.defs _ _).mono (fun _ h => h 0) (Cert.ReferenceIdeal.Value.run (F := Ideal) m' g')

end Cert.Moe
end
-- ==== Proof.lean ====
/-
# The proof of `Cert.Claim`
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

/-- The shapes of the precondition, over a device's blocks -/
theorem pre_facts : Cert.Pre_routed_KernelIdeal.Facts := ⟨by decide, by decide, by decide⟩
/-- and over the whole arrays. -/
theorem pre_facts_whole : Cert.Pre_routed_ReferenceIdeal.Facts := ⟨by decide, by decide, by decide⟩

/-- Everything claimed. -/
theorem claim : Cert.Claim :=
  ⟨Cert.Kernel.Gen.facts, Cert.KernelIdeal.Gen.facts, Cert.ReferenceIdeal.Gen.facts, pre_facts, pre_facts_whole,
    Cert.Moe.frame_kernel,
    fun m ρ _ => Cert.Moe.frame_any m ρ, fun m ρ _ => Cert.Moe.frame_any m ρ,
    fun m ρ _ => Cert.Moe.frame_reference m ρ, fun m ρ _ => Cert.Moe.frame_reference m ρ,
    trivial, haveI := pre_facts; Cert.Moe.algebraic⟩

end Cert.Proof

end
